-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S128x2048 : S_.BroadcastsInDim S128x2048 (![] : Fin 0 → Fin S128x2048.rank)
  reducesTo_S128x2048_S_d0_1 : S128x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S128x2048 .f32 := Host.absf main_arg2
  let main_cst_2 : FVec F S_ .f32 := constant S_ .f32 0x7F800000#32
  let main_v10 : FVec F S128x2048 .f32 := broadcastInDim S128x2048 ![] bcast_S_S128x2048 main_cst_2
  let main_v11 : IVec S128x2048 1 := cmpf .olt main_v9 main_v10
  let main_c_3 : IVec S_ 1 := constantI S_ 1 1#1
  let main_v12 : IVec S_ 1 := (fun x v => Host.reduce IntOp.andi x v reducesTo_S128x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Pre_finite_scores_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  reducesTo_S2x512x2048_S_d0_1_2 : S2x512x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg5 : FVec F S2048x512 .f32) (main_arg6 : FVec F S2048x32 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x512 .f32 := Host.absf main_arg5
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x32 .f32 := Host.absf main_arg6
  let main_cst_8 : FVec F S_ .f32 := constant S_ .f32 0x7F800000#32
  let main_v25 : FVec F S2048x32 .f32 := broadcastInDim S2048x32 ![] bcast_S_S2048x32 main_cst_8
  let main_v26 : IVec S2048x32 1 := cmpf .olt main_v24 main_v25
  let main_c_9 : IVec S_ 1 := constantI S_ 1 1#1
  let main_v27 : IVec S_ 1 := (fun x v => Host.reduce IntOp.andi x v reducesTo_S2048x32_S_d0_1 h_S_) main_v26 main_c_9
  let main_v28 : IVec S_ 1 := andi main_v23 main_v27
  main_v28

def fn {F : FTy → Type} [FloatOps F] (main_arg0 : FVec F S2x512x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S_ 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_c : IVec S_ 1 := constantI S_ 1 1#1
  let main_v3 : IVec S_ 1 := (fun x v => Host.reduce IntOp.andi x v reducesTo_S2x512x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S2048x2048 .f32 := Host.absf main_arg4
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg5 main_arg6 main_v13 main_v16
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x2560 : Shape := ⟨2, ![1024, 2560]⟩
abbrev S1024x256 : Shape := ⟨2, ![1024, 256]⟩
abbrev S256x2048 : Shape := ⟨2, ![256, 2048]⟩
abbrev S2048x256 : Shape := ⟨2, ![2048, 256]⟩
abbrev S3 : Shape := ⟨1, ![3]⟩
abbrev S_ : Shape := ⟨0, ![]⟩
abbrev S1 : Shape := ⟨1, ![1]⟩
abbrev S1024x128 : Shape := ⟨2, ![1024, 128]⟩
abbrev S1024x512 : Shape := ⟨2, ![1024, 512]⟩
abbrev S1024x32 : Shape := ⟨2, ![1024, 32]⟩
abbrev S512x2560 : Shape := ⟨2, ![512, 2560]⟩
abbrev S512x2048 : Shape := ⟨2, ![512, 2048]⟩
abbrev S512x160 : Shape := ⟨2, ![512, 160]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 15
  | .vmem => 27
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x2048, .bf16⟩
  | .hbm, ⟨10, _⟩ => ⟨S1024x2560, .bf16⟩
  | .hbm, ⟨11, _⟩ => ⟨S1024x2560, .bf16⟩
  | .hbm, ⟨12, _⟩ => ⟨S1024x2048, .bf16⟩
  | .hbm, ⟨13, _⟩ => ⟨S1024x2048, .f32⟩
  | .hbm, ⟨14, _⟩ => ⟨S2x512x2048, .f32⟩
  | .local _ .vmem, ⟨0, _⟩ => ⟨S1024x2048, .bf16⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x2048, .f32⟩
  | .local _ .vmem, ⟨5, _⟩ => ⟨S2048x512, .f32⟩
  | .local _ .vmem, ⟨6, _⟩ => ⟨S2048x32, .f32⟩
  | .local _ .vmem, ⟨7, _⟩ => ⟨S1024x2560, .bf16⟩
  | .local _ .vmem, ⟨8, _⟩ => ⟨S1024x2560, .bf16⟩
  | .local _ .vmem, ⟨9, _⟩ => ⟨S1024x2048, .bf16⟩
  | .local _ .vmem, ⟨10, _⟩ => ⟨S1024x256, .bf16⟩
  | .local _ .vmem, ⟨11, _⟩ => ⟨S256x2048, .bf16⟩
  | .local _ .vmem, ⟨12, _⟩ => ⟨S256x2048, .bf16⟩
  | .local _ .vmem, ⟨13, _⟩ => ⟨S2048x256, .bf16⟩
  | .local _ .vmem, ⟨14, _⟩ => ⟨S2048x256, .bf16⟩
  | .local _ .vmem, ⟨15, _⟩ => ⟨S512x2560, .bf16⟩
  | .local _ .vmem, ⟨16, _⟩ => ⟨S512x2560, .bf16⟩
  | .local _ .vmem, ⟨17, _⟩ => ⟨S512x2560, .bf16⟩
  | .local _ .vmem, ⟨18, _⟩ => ⟨S512x2560, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .f32⟩
  | .local _ .vmem, ⟨22, _⟩ => ⟨S512x2048, .f32⟩
  | .local _ .vmem, ⟨23, _⟩ => ⟨S512x2048, .bf16⟩
  | .local _ .vmem, ⟨24, _⟩ => ⟨S2048x2048, .bf16⟩
  | .local _ .vmem, ⟨25, _⟩ => ⟨S512x2048, .f32⟩
  | .local _ .vmem, ⟨26, _⟩ => ⟨S512x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_14 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_13 : BitVec 32 := 8#32
  let v23 : BitVec 32 := Scalar.muli v2 c8_i32_13
  let v24 : BitVec 32 := Scalar.addi c0_i32_14 v23
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_15 : BitVec 32 := 4#32
  let v25 : BitVec 32 := Scalar.muli v9 c4_i32_15
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v27 : BitVec 32 := Scalar.muli v8 c1_i32_16
  let v28 : BitVec 32 := Scalar.addi v26 v27
  v28.toNat
def k0_dev3 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v41 : BitVec 32 := Scalar.muli v2 c8_i32_26
  let v42 : BitVec 32 := Scalar.addi c0_i32_27 v41
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_28 : BitVec 32 := 4#32
  let v43 : BitVec 32 := Scalar.muli v9 c4_i32_28
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v45 : BitVec 32 := Scalar.muli v8 c1_i32_29
  let v46 : BitVec 32 := Scalar.addi v44 v45
  v46.toNat
def k0_dev4 (d0 : Dev nD) : Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_42 : BitVec 32 := 8#32
  let v63 : BitVec 32 := Scalar.muli v2 c8_i32_42
  let v64 : BitVec 32 := Scalar.addi c0_i32_43 v63
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_44 : BitVec 32 := 4#32
  let v65 : BitVec 32 := Scalar.muli v9 c4_i32_44
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v67 : BitVec 32 := Scalar.muli v8 c1_i32_45
  let v68 : BitVec 32 := Scalar.addi v66 v67
  v68.toNat
abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x2560 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Common.lean ====
/-
  The exchange of the first kernel: who talks to whom, through which cells, and what each cell's one duty hands over.

  Every device c has one partner, the device that differs from it in the mesh's axis y. The two signal each other's
  barrier cell, and then each copies three half buffers into the partner's other halves: its block of the key
  up-projection, its block of the value up-projection, and its block of the compressed activations. The duty of a
  barrier cell hands over the partner's three landing halves; the duty of a receive cell hands the own landing half
  back at the partner's values; the duty of a send cell hands the own half back.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.VecWindow

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

/-! ## The partner -/

/-- The device on the other side of the mesh's axis y. -/
def pr (c : Dev nD) : Dev nD := ⟨if c.val / 4 % 2 = 0 then c.val + 4 else c.val - 4, by have h : c.val < 16 := c.isLt; show _ < 16; split <;> omega⟩
theorem pr_pr (c : Dev nD) : pr (pr c) = c := by revert c; decide
theorem pr_ne (c : Dev nD) : pr c ≠ c := by revert c; decide
/-- The partner map as a permutation of the devices. -/
def flip : Dev nD ≃ Dev nD := ⟨pr, pr, pr_pr, pr_pr⟩

theorem dev1_eq (c : Dev nD) : (⟨k0_dev1 c, k0_dev1_lt c⟩ : Dev nD) = pr c := by revert c; decide +kernel
theorem dev2_eq (c : Dev nD) : (⟨k0_dev2 c, k0_dev2_lt c⟩ : Dev nD) = pr c := by revert c; decide +kernel
theorem dev3_eq (c : Dev nD) : (⟨k0_dev3 c, k0_dev3_lt c⟩ : Dev nD) = pr c := by revert c; decide +kernel
theorem dev4_eq (c : Dev nD) : (⟨k0_dev4 c, k0_dev4_lt c⟩ : Dev nD) = pr c := by revert c; decide +kernel

/-! ## The resource algebra: the pipeline's copy, the exchange's, and the counters of the second kernel's own copies -/

variable {F : FTy → Type} [FloatOps F]

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
def ER : Emb (UR sig nD τ) (MT nD τ sig Unit (Elt F) ℕ UU ℕ) := (Emb.inl : Emb (UR sig nD τ) (UR sig nD τ × Counters)).trans embR
instance ER_landsIn : (ER : Emb (UR sig nD τ) 𝕄).LandsIn (upEmb : UEmb _ 𝕄) := by unfold ER; infer_instance

/-! ## The half buffers -/

/-- Key up-projection (256×2048), value up-projection (256×2048), compressed activations (1024×256). -/
abbrev aM : Memref sig .tc .vmem S256x2048 .bf16 := Memref.whole cc0_scratch1
abbrev bM : Memref sig .tc .vmem S256x2048 .bf16 := Memref.whole cc0_scratch2
abbrev cM : Memref sig .tc .vmem S1024x256 .bf16 := Memref.whole cc0_scratch0

/-- The own halves (O) and the landing halves (L). -/
abbrev aO : Memref sig .tc .vmem S128x2048 .bf16 := aM.slice (Rect.unit (s := S256x2048) ![0, 0] S128x2048.size inb_S256x2048_S128x2048_0_0) (fun _ => rfl)
abbrev aL : Memref sig .tc .vmem S128x2048 .bf16 := aM.slice (Rect.unit (s := S256x2048) ![128, 0] S128x2048.size inb_S256x2048_S128x2048_128_0) (fun _ => rfl)
abbrev bO : Memref sig .tc .vmem S128x2048 .bf16 := bM.slice (Rect.unit (s := S256x2048) ![0, 0] S128x2048.size inb_S256x2048_S128x2048_0_0) (fun _ => rfl)
abbrev bL : Memref sig .tc .vmem S128x2048 .bf16 := bM.slice (Rect.unit (s := S256x2048) ![128, 0] S128x2048.size inb_S256x2048_S128x2048_128_0) (fun _ => rfl)
abbrev cO : Memref sig .tc .vmem S1024x128 .bf16 := cM.slice (Rect.unit (s := S1024x256) ![0, 0] S1024x128.size inb_S1024x256_S1024x128_0_0) (fun _ => rfl)
abbrev cL : Memref sig .tc .vmem S1024x128 .bf16 := cM.slice (Rect.unit (s := S1024x256) ![0, 128] S1024x128.size inb_S1024x256_S1024x128_0_128) (fun _ => rfl)

/-! ## Cells -/

abbrev barS : Sem sig := barrier0
abbrev barCell (c : Dev nD) : GSem nD τ sig := ((c : Thread nD τ), .reg barS)
abbrev sA : SemLoc sig := .dma (10 : DmaSem sig)
abbrev sB : SemLoc sig := .dma (11 : DmaSem sig)
abbrev sC : SemLoc sig := .dma (12 : DmaSem sig)
abbrev rA : SemLoc sig := .dma (13 : DmaSem sig)
abbrev rB : SemLoc sig := .dma (14 : DmaSem sig)
abbrev rC : SemLoc sig := .dma (15 : DmaSem sig)
/-- The exchange's cell at the semaphore sm of device c's core. -/
abbrev at' (c : Dev nD) (sm : SemLoc sig) : GSem nD τ sig := ((c : Thread nD τ), sm)

/-- The exchange's six scoped semaphores: three sends, three receives. -/
abbrev osem0 : Fin 6 → SemLoc sig := fun | 0 => sA | 1 => sB | 2 => sC | 3 => rA | 4 => rB | 5 => rC

/-- What a copy of one half credits. -/
abbrev nA : ℕ := (aL : Memref sig .tc .vmem S128x2048 .bf16).view.dmaCredit
abbrev nC : ℕ := (cL : Memref sig .tc .vmem S1024x128 .bf16).view.dmaCredit
theorem nA_pos : 0 < nA := View.dmaCredit_pos _ (by decide)
theorem nC_pos : 0 < nC := View.dmaCredit_pos _ (by decide)

/-! ## Points-tos of the halves -/

/-- Device c's elements of the memref v, at the contents f of its buffer. -/
abbrev half {s : Shape} (v : Memref sig .tc .vmem s .bf16) (c : Dev nD) (f : Buf (Elt F) (v.view.loc (c : Thread nD τ))) : sProp 𝕄 :=
  v.view.loc (c : Thread nD τ) ↦[v.view.set]{fullShare} f

/-- The same elements at contents not named. -/
abbrev anyHalf {s : Shape} (v : Memref sig .tc .vmem s .bf16) (c : Dev nD) : sProp 𝕄 := iprop(∃ f, half v c f)

/-- The elements of the memref v, holding the tensor x. -/
abbrev holds {s : Shape} (v : Memref sig .tc .vmem s .bf16) (c : Dev nD) (x : Vec F s .bf16) : sProp 𝕄 := half v c (v.view.rep x)

/-- Elements whose contents read as x hold x. -/
theorem holds_of {s : Shape} (v : Memref sig .tc .vmem s .bf16) (c : Dev nD) (f : Buf (Elt F) (v.view.loc (c : Thread nD τ)))
    (x : Vec F s .bf16) (h : v.view.read (Elt F) f = x) :
    (v.view.loc (c : Thread nD τ) ↦[v.view.set]{fullShare} f : sProp 𝕄) ⊢ (v.view.loc (c : Thread nD τ) ↦[v.view.set]{fullShare} v.view.rep x) := by
  subst h; exact pointsTo_rep_entails (c : Thread nD τ) v f fullShare

/-- The elements of the memref v after the tensor x was copied in, over contents not named. -/
abbrev landed {s : Shape} (v : Memref sig .tc .vmem s .bf16) (w : Memref sig .tc .vmem s .bf16) (c : Dev nD) (x : Vec F s .bf16) : sProp 𝕄 :=
  iprop(∃ fd, v.view.loc (c : Thread nD τ) ↦[v.view.set]{fullShare} (v.view.write (Elt F) fd (w.view.read (Elt F) (w.view.rep x)) Finset.univ))

/-- The three tensors every device computes and sends. -/
structure Vals (F : FTy → Type) [FloatOps F] where
  A : Dev nD → Vec F S128x2048 .bf16
  B : Dev nD → Vec F S128x2048 .bf16
  C : Dev nD → Vec F S1024x128 .bf16

variable (X : Vals F)

/-! ## The schedule -/

/-- Paid to device c's barrier cell by its partner: the partner's three landing halves, and that round 0 of the
    partner's receive cells is reached. -/
def barPay (c : Dev nD) : sProp 𝕄 :=
  iprop(anyHalf (F := F) aL (pr c) ∗ anyHalf (F := F) bL (pr c) ∗ anyHalf (F := F) cL (pr c)
    ∗ reached ER (at' (pr c) rA) 0 ∗ reached ER (at' (pr c) rB) 0 ∗ reached ER (at' (pr c) rC) 0)

/-- What the cell of device c at sm hands over in round 0. -/
def pay (c : Dev nD) (sm : SemLoc sig) : sProp 𝕄 :=
  if sm = .reg barS then barPay c
  else if sm = sA then holds aO c (X.A c) else if sm = sB then holds bO c (X.B c) else if sm = sC then holds cO c (X.C c)
  else if sm = rA then landed aL aO c (X.A (pr c)) else if sm = rB then landed bL bO c (X.B (pr c)) else if sm = rC then landed cL cO c (X.C (pr c))
  else iprop(emp)

/-- What a duty of the cell at sm is worth. -/
def amt (sm : SemLoc sig) : ℕ := if sm = .reg barS then 1 else if sm = sC ∨ sm = rC then nC else nA

/-- The semaphores the exchange uses. -/
abbrev IsTalk (sm : SemLoc sig) : Prop := sm = .reg barS ∨ sm = sA ∨ sm = sB ∨ sm = sC ∨ sm = rA ∨ sm = rB ∨ sm = rC

/-- One round, one duty per cell of the exchange. -/
def rd : Rounds.Schedule (GSem nD τ sig) Unit 𝕄 where
  duties g r := if r = 0 ∧ g.1.2 = .tc ∧ IsTalk g.2 then {()} else ∅
  unitless _ := False
  amount g _ _ := amt g.2
  payload g _ _ := pay X g.1.1 g.2
  amount_pos g _ _ _ := by
    unfold amt
    split
    · exact Nat.one_pos
    · split
      · exact nC_pos
      · exact nA_pos

set_option synthInstance.maxHeartbeats 400000 in
instance barPay_storable (c : Dev nD) : BI.Storable (upEmb : UEmb _ 𝕄) (barPay (F := F) c) := by
  unfold barPay; infer_instance

set_option synthInstance.maxHeartbeats 400000 in
instance rd_payload_storable (g : GSem nD τ sig) (r : ℕ) (d : Unit) :
    BI.Storable (upEmb : UEmb _ 𝕄) ((rd X).payload g r d) := by
  show BI.Storable upEmb (pay X g.1.1 g.2)
  unfold pay
  (repeat' split) <;> infer_instance

section Sched
variable (c : Dev nD)

theorem duties_of (sm : SemLoc sig) (h : IsTalk sm) : (rd X).duties (at' c sm) 0 = {()} := by
  dsimp only [rd]; exact if_pos ⟨rfl, rfl, h⟩
theorem duties_later (g : GSem nD τ sig) : ∀ r, 1 ≤ r → (rd X).duties g r = ∅ :=
  fun r hr => by dsimp only [rd]; rw [if_neg (fun h => by omega)]
theorem amount_of (sm : SemLoc sig) (r : ℕ) (u : Unit) : (rd X).amount (at' c sm) r u = amt sm := rfl
theorem payload_of (sm : SemLoc sig) (r : ℕ) (u : Unit) : (rd X).payload (at' c sm) r u = pay X c sm := rfl
theorem expect_of (sm : SemLoc sig) (h : IsTalk sm) : (rd X).expect (at' c sm) 0 = amt sm := by
  unfold Schedule.expect Schedule.amountOf; rw [duties_of X c sm h, Finset.sum_singleton]; rfl
theorem rest_of (sm : SemLoc sig) (h : IsTalk sm) :
    bigSep ((rd X).duties (at' c sm) 0 \ ∅) (fun u => (rd X).payload (at' c sm) 0 u) = pay X c sm := by
  rw [Finset.sdiff_empty, duties_of X c sm h, bigSep_singleton]; rfl

theorem pay_bar : pay X c (.reg barS) = barPay c := if_pos rfl
theorem pay_sA : pay X c sA = holds aO c (X.A c) := by unfold pay; simp only [reduceCtorEq, if_false, if_true]
theorem pay_sB : pay X c sB = holds bO c (X.B c) := by
  unfold pay; rw [if_neg (by decide), if_neg (by decide), if_pos rfl]
theorem pay_sC : pay X c sC = holds cO c (X.C c) := by
  unfold pay; rw [if_neg (by decide), if_neg (by decide), if_neg (by decide), if_pos rfl]
theorem pay_rA : pay X c rA = landed aL aO c (X.A (pr c)) := by
  unfold pay; rw [if_neg (by decide), if_neg (by decide), if_neg (by decide), if_neg (by decide), if_pos rfl]
theorem pay_rB : pay X c rB = landed bL bO c (X.B (pr c)) := by
  unfold pay; rw [if_neg (by decide), if_neg (by decide), if_neg (by decide), if_neg (by decide), if_neg (by decide), if_pos rfl]
theorem pay_rC : pay X c rC = landed cL cO c (X.C (pr c)) := by
  unfold pay; rw [if_neg (by decide), if_neg (by decide), if_neg (by decide), if_neg (by decide), if_neg (by decide), if_neg (by decide), if_pos rfl]

theorem amt_bar : amt (.reg barS) = 1 := if_pos rfl
theorem amt_sA : amt sA = nA := by unfold amt; rw [if_neg (by decide), if_neg (by decide)]
theorem amt_sB : amt sB = nA := by unfold amt; rw [if_neg (by decide), if_neg (by decide)]
theorem amt_rA : amt rA = nA := by unfold amt; rw [if_neg (by decide), if_neg (by decide)]
theorem amt_rB : amt rB = nA := by unfold amt; rw [if_neg (by decide), if_neg (by decide)]
theorem amt_sC : amt sC = nC := by unfold amt; rw [if_neg (by decide), if_pos (by decide)]
theorem amt_rC : amt rC = nC := by unfold amt; rw [if_neg (by decide), if_pos (by decide)]

end Sched

/-! The tables, cell by cell. -/

section Tables
variable (c : Dev nD)
theorem talk_bar : IsTalk (.reg barS) := .inl rfl
theorem duties_bar : (rd X).duties ((c : Thread nD τ), (.reg barS)) 0 = {()} := duties_of X c _ talk_bar
theorem amount_bar (r : ℕ) (u : Unit) : (rd X).amount ((c : Thread nD τ), (.reg barS)) r u = 1 := (amount_of X c _ r u).trans amt_bar
theorem payload_bar (r : ℕ) (u : Unit) : (rd X).payload ((c : Thread nD τ), (.reg barS)) r u =
    iprop(anyHalf (F := F) aL (pr c) ∗ anyHalf (F := F) bL (pr c) ∗ anyHalf (F := F) cL (pr c)
    ∗ reached ER (at' (pr c) rA) 0 ∗ reached ER (at' (pr c) rB) 0 ∗ reached ER (at' (pr c) rC) 0) := (payload_of X c _ r u).trans (pay_bar X c)
theorem expect_bar : (rd X).expect ((c : Thread nD τ), (.reg barS)) 0 = 1 := (expect_of X c _ talk_bar).trans amt_bar
theorem talk_sA : IsTalk sA := .inr (.inl rfl)
theorem duties_sA : (rd X).duties ((c : Thread nD τ), sA) 0 = {()} := duties_of X c _ talk_sA
theorem amount_sA (r : ℕ) (u : Unit) : (rd X).amount ((c : Thread nD τ), sA) r u = nA := (amount_of X c _ r u).trans amt_sA
theorem payload_sA (r : ℕ) (u : Unit) : (rd X).payload ((c : Thread nD τ), sA) r u = holds aO c (X.A c) := (payload_of X c _ r u).trans (pay_sA X c)
theorem expect_sA : (rd X).expect ((c : Thread nD τ), sA) 0 = nA := (expect_of X c _ talk_sA).trans amt_sA
theorem talk_sB : IsTalk sB := .inr (.inr (.inl rfl))
theorem duties_sB : (rd X).duties ((c : Thread nD τ), sB) 0 = {()} := duties_of X c _ talk_sB
theorem amount_sB (r : ℕ) (u : Unit) : (rd X).amount ((c : Thread nD τ), sB) r u = nA := (amount_of X c _ r u).trans amt_sB
theorem payload_sB (r : ℕ) (u : Unit) : (rd X).payload ((c : Thread nD τ), sB) r u = holds bO c (X.B c) := (payload_of X c _ r u).trans (pay_sB X c)
theorem expect_sB : (rd X).expect ((c : Thread nD τ), sB) 0 = nA := (expect_of X c _ talk_sB).trans amt_sB
theorem talk_sC : IsTalk sC := .inr (.inr (.inr (.inl rfl)))
theorem duties_sC : (rd X).duties ((c : Thread nD τ), sC) 0 = {()} := duties_of X c _ talk_sC
theorem amount_sC (r : ℕ) (u : Unit) : (rd X).amount ((c : Thread nD τ), sC) r u = nC := (amount_of X c _ r u).trans amt_sC
theorem payload_sC (r : ℕ) (u : Unit) : (rd X).payload ((c : Thread nD τ), sC) r u = holds cO c (X.C c) := (payload_of X c _ r u).trans (pay_sC X c)
theorem expect_sC : (rd X).expect ((c : Thread nD τ), sC) 0 = nC := (expect_of X c _ talk_sC).trans amt_sC
theorem talk_rA : IsTalk rA := .inr (.inr (.inr (.inr (.inl rfl))))
theorem duties_rA : (rd X).duties ((c : Thread nD τ), rA) 0 = {()} := duties_of X c _ talk_rA
theorem amount_rA (r : ℕ) (u : Unit) : (rd X).amount ((c : Thread nD τ), rA) r u = nA := (amount_of X c _ r u).trans amt_rA
theorem payload_rA (r : ℕ) (u : Unit) : (rd X).payload ((c : Thread nD τ), rA) r u =
    iprop(∃ fd, aL.view.loc (c : Thread nD τ) ↦[aL.view.set]{fullShare}
      (aL.view.write (Elt F) fd (aO.view.read (Elt F) (aO.view.rep (X.A (pr c)))) Finset.univ)) := (payload_of X c _ r u).trans (pay_rA X c)
theorem expect_rA : (rd X).expect ((c : Thread nD τ), rA) 0 = nA := (expect_of X c _ talk_rA).trans amt_rA
theorem talk_rB : IsTalk rB := .inr (.inr (.inr (.inr (.inr (.inl rfl)))))
theorem duties_rB : (rd X).duties ((c : Thread nD τ), rB) 0 = {()} := duties_of X c _ talk_rB
theorem amount_rB (r : ℕ) (u : Unit) : (rd X).amount ((c : Thread nD τ), rB) r u = nA := (amount_of X c _ r u).trans amt_rB
theorem payload_rB (r : ℕ) (u : Unit) : (rd X).payload ((c : Thread nD τ), rB) r u =
    iprop(∃ fd, bL.view.loc (c : Thread nD τ) ↦[bL.view.set]{fullShare}
      (bL.view.write (Elt F) fd (bO.view.read (Elt F) (bO.view.rep (X.B (pr c)))) Finset.univ)) := (payload_of X c _ r u).trans (pay_rB X c)
theorem expect_rB : (rd X).expect ((c : Thread nD τ), rB) 0 = nA := (expect_of X c _ talk_rB).trans amt_rB
theorem talk_rC : IsTalk rC := .inr (.inr (.inr (.inr (.inr (.inr rfl)))))
theorem duties_rC : (rd X).duties ((c : Thread nD τ), rC) 0 = {()} := duties_of X c _ talk_rC
theorem amount_rC (r : ℕ) (u : Unit) : (rd X).amount ((c : Thread nD τ), rC) r u = nC := (amount_of X c _ r u).trans amt_rC
theorem payload_rC (r : ℕ) (u : Unit) : (rd X).payload ((c : Thread nD τ), rC) r u =
    iprop(∃ fd, cL.view.loc (c : Thread nD τ) ↦[cL.view.set]{fullShare}
      (cL.view.write (Elt F) fd (cO.view.read (Elt F) (cO.view.rep (X.C (pr c)))) Finset.univ)) := (payload_of X c _ r u).trans (pay_rC X c)
theorem expect_rC : (rd X).expect ((c : Thread nD τ), rC) 0 = nC := (expect_of X c _ talk_rC).trans amt_rC
end Tables

/-! ## What a core owes at launch; the levels -/

/-- What is left to pay after the barrier's unit: the partner's three receive credits. -/
def O₁ (c : Dev nD) : CellTallies nD τ sig Unit :=
  tallyAt (at' (pr c) rA) () nA + tallyAt (at' (pr c) rB) () nA + tallyAt (at' (pr c) rC) () nC
/-- The three receive credits and the barrier's unit. -/
def O₀ (c : Dev nD) : CellTallies nD τ sig Unit := O₁ c + tallyAt (barCell (pr c)) () 1

def L (g : GSem nD τ sig) : Finset Unit := if g.1.2 = .tc then {()} else ∅
/-- Barrier cells at 1, receive cells at 2, the rest at 0. -/
def lv (g : GSem nD τ sig) (_ : Unit) : ℕ :=
  if g.2 = .reg barS then 1 else if g.2 = rA ∨ g.2 = rB ∨ g.2 = rC then 2 else 0

theorem L_of_ne (g : GSem nD τ sig) (h : g.1.2 ≠ .tc) : L g = ∅ := if_neg h
theorem L_tc (c : Dev nD) (sm : SemLoc sig) : L ((c : Thread nD τ), sm) = {()} := if_pos rfl

/-- A cell at which O₁ is positive is one of the partner's receive cells. -/
theorem O₁_pos (c : Dev nD) (g : GSem nD τ sig) (u : Unit) (h : 0 < O₁ c g u) :
    g = at' (pr c) rA ∨ g = at' (pr c) rB ∨ g = at' (pr c) rC := by
  by_contra hn
  push Not at hn
  have e : O₁ c g u = 0 := by
    show tallyAt (at' (pr c) rA) () nA g u + tallyAt (at' (pr c) rB) () nA g u + tallyAt (at' (pr c) rC) () nC g u = 0
    rw [tallyAt_apply, tallyAt_apply, tallyAt_apply, if_neg (fun h => hn.1 h.1), if_neg (fun h => hn.2.1 h.1), if_neg (fun h => hn.2.2 h.1)]
  omega

theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by
      rcases O₁_pos c g u hg with h | h | h <;> (rw [h, L_tc]; exact Finset.mem_singleton_self _))
    (fun p hp => by rw [Finset.mem_singleton.mp hp]; dsimp only [lv]; rw [if_pos rfl])
    (fun g u hg => by
      rcases O₁_pos c g u hg with h | h | h <;>
        (rw [h]; dsimp only [lv]; rw [if_neg (by decide), if_pos (by decide)]; decide))

/-! ## The exchange's ghost state -/

/-- The invariants device c opens, at the names K the launch allocated them at: its own seven cells, the partner's
    barrier cell and the partner's three receive cells. -/
def invs (K : GSem nD τ sig → ℕ) (c : Dev nD) : sProp 𝕄 :=
  iprop(cellInv ER (rd X) (K (barCell c)) (barCell c)
    ∗ cellInv ER (rd X) (K (at' c sA)) (at' c sA) ∗ cellInv ER (rd X) (K (at' c sB)) (at' c sB) ∗ cellInv ER (rd X) (K (at' c sC)) (at' c sC)
    ∗ cellInv ER (rd X) (K (at' c rA)) (at' c rA) ∗ cellInv ER (rd X) (K (at' c rB)) (at' c rB) ∗ cellInv ER (rd X) (K (at' c rC)) (at' c rC)
    ∗ cellInv ER (rd X) (K (barCell (pr c))) (barCell (pr c))
    ∗ cellInv ER (rd X) (K (at' (pr c) rA)) (at' (pr c) rA) ∗ cellInv ER (rd X) (K (at' (pr c) rB)) (at' (pr c) rB)
    ∗ cellInv ER (rd X) (K (at' (pr c) rC)) (at' (pr c) rC))

instance invs_persistent (K : GSem nD τ sig → ℕ) (c : Dev nD) : BI.Persistent (invs X K c) := by unfold invs; infer_instance

/-- The seven duty tokens device c pays with. -/
def toks (c : Dev nD) : sProp 𝕄 :=
  iprop(dutyTok ER (barCell (pr c)) 0 ()
    ∗ dutyTok ER (at' (pr c) rA) 0 () ∗ dutyTok ER (at' (pr c) rB) 0 () ∗ dutyTok ER (at' (pr c) rC) 0 ()
    ∗ dutyTok ER (at' c sA) 0 () ∗ dutyTok ER (at' c sB) 0 () ∗ dutyTok ER (at' c sC) 0 ())

/-- What device c carries from launch to the exchange: the names, its position on its barrier cell, the right to open
    its six scoped cells, that the partner's barrier cell is at round 0, its duty tokens. -/
def ghost (K : GSem nD τ sig → ℕ) (c : Dev nD) : sProp 𝕄 :=
  iprop(invs X K c ∗ atPos ER (barCell c) 0 ∅ 0
    ∗ (openTok ER (at' c sA) ∗ openTok ER (at' c sB) ∗ openTok ER (at' c sC)
      ∗ openTok ER (at' c rA) ∗ openTok ER (at' c rB) ∗ openTok ER (at' c rC))
    ∗ reached ER (barCell (pr c)) 0 ∗ toks c)

/-- The credit a core waits with. -/
def creds (c : Dev nD) : sProp 𝕄 :=
  iprop(cred (tallyAt (barCell c) () 1) ∗ cred (tallyAt (at' c rA) () nA) ∗ cred (tallyAt (at' c rB) () nA) ∗ cred (tallyAt (at' c rC) () nC))

/-- What rides the thread state up to the exchange. -/
def start (c : Dev nD) : sProp 𝕄 := iprop((∃ K, ghost X K c) ∗ creds c)

/-- After the six scoped cells are opened. -/
def opened (K : GSem nD τ sig → ℕ) (c : Dev nD) : sProp 𝕄 :=
  iprop(invs X K c
    ∗ (atPos ER (barCell c) 0 ∅ 0 ∗ atPos ER (at' c sA) 0 ∅ 0 ∗ atPos ER (at' c sB) 0 ∅ 0 ∗ atPos ER (at' c sC) 0 ∅ 0
      ∗ atPos ER (at' c rA) 0 ∅ 0 ∗ atPos ER (at' c rB) 0 ∅ 0 ∗ atPos ER (at' c rC) 0 ∅ 0)
    ∗ (reached ER (barCell (pr c)) 0 ∗ reached ER (at' c sA) 0 ∗ reached ER (at' c sB) 0 ∗ reached ER (at' c sC) 0
      ∗ reached ER (at' c rA) 0 ∗ reached ER (at' c rB) 0 ∗ reached ER (at' c rC) 0)
    ∗ toks c)

/-- A cell past its one round gives its counter back at zero. -/
theorem close (κ : ℕ) (g : GSem nD τ sig) :
    iprop(cellInv ER (rd X) κ g ∗ atPos ER g (0 + 1) ∅ 0) ⊢ (|={Set.univ}=> semVal g 0 : sProp 𝕄) :=
  Rounds.cell_close ER (rd X) (Set.mem_univ κ) id (duties_later X g)

abbrev 𝒱₀ : Variants := Variants.none

end Cert.KernelIdeal.Talk
-- ==== Proof.Halves.lean ====
/-
  A buffer held in two halves.
-/
module

public import proofs.«01_k».proof.Proof.Common

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Two halves of one buffer -/

section Halves
variable {s : Shape} {e : EltTy} (m : Memref sig .tc .vmem s e) (r r' : Rect s) (h : ∀ a, r.stride a = 1) (h' : ∀ a, r'.stride a = 1)
  (c : Dev nD)

/-- The tensor with v on r' and x on r. -/
abbrev cat2 (x : r.shape.Idx → Elt F e) (v : r'.shape.Idx → Elt F e) : s.Idx → Elt F e := View.canon [⟨r', v⟩, ⟨r, x⟩]

variable (hcov : ∀ y : s.Idx, y ∈ r.set ∨ y ∈ r'.set) (hdis : Disjoint r.set r'.set)

include hcov in
theorem set_halves : m.view.set = (m.slice r h).view.set ∪ (m.slice r' h').view.set := by
  ext i
  constructor
  · intro hi
    obtain ⟨y, -, rfl⟩ := Finset.mem_map.mp hi
    rcases hcov y with hy | hy
    · exact Finset.mem_union_left _ (by
        show m.view.emb y ∈ (m.view.slice r).set
        rw [View.set_slice]; exact Finset.mem_map_of_mem _ hy)
    · exact Finset.mem_union_right _ (by
        show m.view.emb y ∈ (m.view.slice r').set
        rw [View.set_slice]; exact Finset.mem_map_of_mem _ hy)
  · intro hi
    rcases Finset.mem_union.mp hi with hi | hi
    · exact View.set_slice_subset m.view r hi
    · exact View.set_slice_subset m.view r' hi

include hdis in
theorem disj_halves : Disjoint (m.slice r h).view.set (m.slice r' h').view.set := by
  show Disjoint (m.view.slice r).set (m.view.slice r').set
  rw [View.set_slice, View.set_slice]
  exact (Finset.disjoint_map _).mpr hdis

include hcov hdis in
/-- A whole buffer is its two halves. -/
theorem split2 (f : Buf (Elt F) (m.view.loc (c : Thread nD τ))) :
    (m.view.loc (c : Thread nD τ) ↦[m.view.set]{fullShare} f : sProp 𝕄)
      ⊢ iprop(((m.slice r h).view.loc (c : Thread nD τ) ↦[(m.slice r h).view.set]{fullShare} f)
        ∗ ((m.slice r' h').view.loc (c : Thread nD τ) ↦[(m.slice r' h').view.set]{fullShare} f)) := by
  rw [set_halves m r r' h h' hcov]
  exact (pointsTo_union (disj_halves m r r' h h' hdis)).1

include hcov hdis in
/-- Two halves held at contents that read x and v are the whole buffer at the two tensors side by side. -/
theorem join2 (f g : Buf (Elt F) (m.view.loc (c : Thread nD τ))) (x : r.shape.Idx → Elt F e) (v : r'.shape.Idx → Elt F e)
    (hx : (m.slice r h).view.read (Elt F) f = x) (hv : (m.slice r' h').view.read (Elt F) g = v) :
    (iprop(((m.slice r h).view.loc (c : Thread nD τ) ↦[(m.slice r h).view.set]{fullShare} f)
        ∗ ((m.slice r' h').view.loc (c : Thread nD τ) ↦[(m.slice r' h').view.set]{fullShare} g)) : sProp 𝕄)
      ⊢ m.view.loc (c : Thread nD τ) ↦[m.view.set]{fullShare} m.view.rep (cat2 r r' x v) := by
  have e1 : ((m.slice r h).view.loc (c : Thread nD τ) ↦[(m.slice r h).view.set]{fullShare} f : sProp 𝕄)
      = (m.slice r h).view.loc (c : Thread nD τ) ↦[(m.slice r h).view.set]{fullShare} m.view.rep (cat2 r r' x v) :=
    pointsTo_congr fun i hi => by
      obtain ⟨j, -, rfl⟩ := Finset.mem_map.mp hi
      have hj : r.emb j ∉ r'.set := fun hm => Finset.disjoint_left.mp hdis (by rw [← Rect.map_emb_univ]; exact Finset.mem_map_of_mem _ (Finset.mem_univ _)) hm
      have e : m.view.rep (cat2 r r' x v) (m.view.emb (r.emb j)) = _ := View.rep_emb m.view _ _
      have ec : cat2 r r' x v (r.emb j) = x j := (View.canon_cons_of_not_mem _ _ hj).trans (View.canon_cons_emb _ _ _ _)
      refine Eq.trans ?_ e.symm
      rw [ec, ← hx, View.read_apply, cast_cast, cast_eq]
  have e2 : ((m.slice r' h').view.loc (c : Thread nD τ) ↦[(m.slice r' h').view.set]{fullShare} g : sProp 𝕄)
      = (m.slice r' h').view.loc (c : Thread nD τ) ↦[(m.slice r' h').view.set]{fullShare} m.view.rep (cat2 r r' x v) :=
    pointsTo_congr fun i hi => by
      obtain ⟨j, -, rfl⟩ := Finset.mem_map.mp hi
      have e : m.view.rep (cat2 r r' x v) (m.view.emb (r'.emb j)) = _ := View.rep_emb m.view _ _
      have ec : cat2 r r' x v (r'.emb j) = v j := View.canon_cons_emb _ _ _ _
      refine Eq.trans ?_ e.symm
      rw [ec, ← hv, View.read_apply, cast_cast, cast_eq]
  rw [e1, e2]
  refine (pointsTo_union (disj_halves m r r' h h' hdis)).2.trans ?_
  rw [← set_halves m r r' h h' hcov]

end Halves

/-- The upper and lower half of a 256×2048 buffer, the left and right half of a 1024×256 buffer. -/
abbrev rTop : Rect S256x2048 := Rect.unit (s := S256x2048) ![0, 0] S128x2048.size inb_S256x2048_S128x2048_0_0
abbrev rBot : Rect S256x2048 := Rect.unit (s := S256x2048) ![128, 0] S128x2048.size inb_S256x2048_S128x2048_128_0
abbrev rLeft : Rect S1024x256 := Rect.unit (s := S1024x256) ![0, 0] S1024x128.size inb_S1024x256_S1024x128_0_0
abbrev rRight : Rect S1024x256 := Rect.unit (s := S1024x256) ![0, 128] S1024x128.size inb_S1024x256_S1024x128_0_128

theorem cov_rows (y : S256x2048.Idx) : y ∈ rTop.set ∨ y ∈ rBot.set := by
  have h0 : (y 0).val < 256 := (y 0).isLt
  have h1 : (y 1).val < 2048 := (y 1).isLt
  by_cases h : (y 0).val < 128
  · left; rw [Rect.mem_set_unit]
    intro a; fin_cases a
    · exact ⟨Nat.zero_le _, by simpa [S128x2048] using h⟩
    · exact ⟨Nat.zero_le _, by simpa [S128x2048] using h1⟩
  · right; rw [Rect.mem_set_unit]
    intro a; fin_cases a
    · exact ⟨by simpa using h, by simpa [S128x2048] using h0⟩
    · exact ⟨Nat.zero_le _, by simpa [S128x2048] using h1⟩
theorem cov_cols (y : S1024x256.Idx) : y ∈ rLeft.set ∨ y ∈ rRight.set := by
  have h0 : (y 0).val < 1024 := (y 0).isLt
  have h1 : (y 1).val < 256 := (y 1).isLt
  by_cases h : (y 1).val < 128
  · left; rw [Rect.mem_set_unit]
    intro a; fin_cases a
    · exact ⟨Nat.zero_le _, by simpa [S1024x128] using h0⟩
    · exact ⟨Nat.zero_le _, by simpa [S1024x128] using h⟩
  · right; rw [Rect.mem_set_unit]
    intro a; fin_cases a
    · exact ⟨Nat.zero_le _, by simpa [S1024x128] using h0⟩
    · exact ⟨by simpa using h, by simpa [S1024x128] using h1⟩
theorem dis_rows : Disjoint rTop.set rBot.set := Rect.unit_disjoint 0 (by decide)
theorem dis_cols : Disjoint rLeft.set rRight.set := Rect.unit_disjoint 1 (by decide)

end Cert.KernelIdeal.Talk
-- ==== Proof.Outs.lean ====
/-
  What the first kernel leaves in its three result blocks, as lists of stored tiles.
-/
module

public import proofs.«01_k».proof.Proof.Common

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The 256 columns of the query projection's weights from column 256·k on, for k = 0 … 7. -/
abbrev wq0 (x : Vec F S2048x2048 .f32) : Vec F S2048x256 .f32 := View.ld x (Rect.unit (s := S2048x2048) ![0, 0] S2048x256.size inb_S2048x2048_S2048x256_0_0)

abbrev wq1 (x : Vec F S2048x2048 .f32) : Vec F S2048x256 .f32 := View.ld x (Rect.unit (s := S2048x2048) ![0, 256] S2048x256.size inb_S2048x2048_S2048x256_0_256)

abbrev wq2 (x : Vec F S2048x2048 .f32) : Vec F S2048x256 .f32 := View.ld x (Rect.unit (s := S2048x2048) ![0, 512] S2048x256.size inb_S2048x2048_S2048x256_0_512)

abbrev wq3 (x : Vec F S2048x2048 .f32) : Vec F S2048x256 .f32 := View.ld x (Rect.unit (s := S2048x2048) ![0, 768] S2048x256.size inb_S2048x2048_S2048x256_0_768)

abbrev wq4 (x : Vec F S2048x2048 .f32) : Vec F S2048x256 .f32 := View.ld x (Rect.unit (s := S2048x2048) ![0, 1024] S2048x256.size inb_S2048x2048_S2048x256_0_1024)

abbrev wq5 (x : Vec F S2048x2048 .f32) : Vec F S2048x256 .f32 := View.ld x (Rect.unit (s := S2048x2048) ![0, 1280] S2048x256.size inb_S2048x2048_S2048x256_0_1280)

abbrev wq6 (x : Vec F S2048x2048 .f32) : Vec F S2048x256 .f32 := View.ld x (Rect.unit (s := S2048x2048) ![0, 1536] S2048x256.size inb_S2048x2048_S2048x256_0_1536)

abbrev wq7 (x : Vec F S2048x2048 .f32) : Vec F S2048x256 .f32 := View.ld x (Rect.unit (s := S2048x2048) ![0, 1792] S2048x256.size inb_S2048x2048_S2048x256_0_1792)

/-- The queries of the sixteen heads, 160 columns to a head: 128 of the projection, then 32 of the rotary part, both
    scaled. -/
def outQ (x : Vec F S1024x2048 .bf16) (w : Vec F S2048x2048 .f32) (wr : Vec F S2048x512 .f32) : Vec F S1024x2560 .bf16 :=
  View.canon [
    ⟨Rect.unit (s := S1024x2560) ![0, 2528] S1024x32.size inb_S1024x2560_S1024x32_0_2528, k0_pay54 (k0_pay38 (k0_pay5 x) wr)⟩,
    ⟨Rect.unit (s := S1024x2560) ![0, 2368] S1024x32.size inb_S1024x2560_S1024x32_0_2368, k0_pay53 (k0_pay38 (k0_pay5 x) wr)⟩,
    ⟨Rect.unit (s := S1024x2560) ![0, 2208] S1024x32.size inb_S1024x2560_S1024x32_0_2208, k0_pay52 (k0_pay38 (k0_pay5 x) wr)⟩,
    ⟨Rect.unit (s := S1024x2560) ![0, 2048] S1024x32.size inb_S1024x2560_S1024x32_0_2048, k0_pay51 (k0_pay38 (k0_pay5 x) wr)⟩,
    ⟨Rect.unit (s := S1024x2560) ![0, 1888] S1024x32.size inb_S1024x2560_S1024x32_0_1888, k0_pay50 (k0_pay38 (k0_pay5 x) wr)⟩,
    ⟨Rect.unit (s := S1024x2560) ![0, 1728] S1024x32.size inb_S1024x2560_S1024x32_0_1728, k0_pay49 (k0_pay38 (k0_pay5 x) wr)⟩,
    ⟨Rect.unit (s := S1024x2560) ![0, 1568] S1024x32.size inb_S1024x2560_S1024x32_0_1568, k0_pay48 (k0_pay38 (k0_pay5 x) wr)⟩,
    ⟨Rect.unit (s := S1024x2560) ![0, 1408] S1024x32.size inb_S1024x2560_S1024x32_0_1408, k0_pay47 (k0_pay38 (k0_pay5 x) wr)⟩,
    ⟨Rect.unit (s := S1024x2560) ![0, 1248] S1024x32.size inb_S1024x2560_S1024x32_0_1248, k0_pay46 (k0_pay38 (k0_pay5 x) wr)⟩,
    ⟨Rect.unit (s := S1024x2560) ![0, 1088] S1024x32.size inb_S1024x2560_S1024x32_0_1088, k0_pay45 (k0_pay38 (k0_pay5 x) wr)⟩,
    ⟨Rect.unit (s := S1024x2560) ![0, 928] S1024x32.size inb_S1024x2560_S1024x32_0_928, k0_pay44 (k0_pay38 (k0_pay5 x) wr)⟩,
    ⟨Rect.unit (s := S1024x2560) ![0, 768] S1024x32.size inb_S1024x2560_S1024x32_0_768, k0_pay43 (k0_pay38 (k0_pay5 x) wr)⟩,
    ⟨Rect.unit (s := S1024x2560) ![0, 608] S1024x32.size inb_S1024x2560_S1024x32_0_608, k0_pay42 (k0_pay38 (k0_pay5 x) wr)⟩,
    ⟨Rect.unit (s := S1024x2560) ![0, 448] S1024x32.size inb_S1024x2560_S1024x32_0_448, k0_pay41 (k0_pay5 x) wr⟩,
    ⟨Rect.unit (s := S1024x2560) ![0, 288] S1024x32.size inb_S1024x2560_S1024x32_0_288, k0_pay40 (k0_pay5 x) wr⟩,
    ⟨Rect.unit (s := S1024x2560) ![0, 128] S1024x32.size inb_S1024x2560_S1024x32_0_128, k0_pay39 (k0_pay5 x) wr⟩,
    ⟨Rect.unit (s := S1024x2560) ![0, 2400] S1024x128.size inb_S1024x2560_S1024x128_0_2400, k0_pay37 (k0_pay5 x) (k0_pay34 (wq7 w))⟩,
    ⟨Rect.unit (s := S1024x2560) ![0, 2240] S1024x128.size inb_S1024x2560_S1024x128_0_2240, k0_pay36 (k0_pay5 x) (k0_pay34 (wq7 w))⟩,
    ⟨Rect.unit (s := S1024x2560) ![0, 2080] S1024x128.size inb_S1024x2560_S1024x128_0_2080, k0_pay33 (k0_pay5 x) (k0_pay30 (wq6 w))⟩,
    ⟨Rect.unit (s := S1024x2560) ![0, 1920] S1024x128.size inb_S1024x2560_S1024x128_0_1920, k0_pay32 (k0_pay5 x) (k0_pay30 (wq6 w))⟩,
    ⟨Rect.unit (s := S1024x2560) ![0, 1760] S1024x128.size inb_S1024x2560_S1024x128_0_1760, k0_pay29 (k0_pay5 x) (k0_pay26 (wq5 w))⟩,
    ⟨Rect.unit (s := S1024x2560) ![0, 1600] S1024x128.size inb_S1024x2560_S1024x128_0_1600, k0_pay28 (k0_pay5 x) (k0_pay26 (wq5 w))⟩,
    ⟨Rect.unit (s := S1024x2560) ![0, 1440] S1024x128.size inb_S1024x2560_S1024x128_0_1440, k0_pay25 (k0_pay5 x) (k0_pay22 (wq4 w))⟩,
    ⟨Rect.unit (s := S1024x2560) ![0, 1280] S1024x128.size inb_S1024x2560_S1024x128_0_1280, k0_pay24 (k0_pay5 x) (k0_pay22 (wq4 w))⟩,
    ⟨Rect.unit (s := S1024x2560) ![0, 1120] S1024x128.size inb_S1024x2560_S1024x128_0_1120, k0_pay21 (k0_pay5 x) (k0_pay18 (wq3 w))⟩,
    ⟨Rect.unit (s := S1024x2560) ![0, 960] S1024x128.size inb_S1024x2560_S1024x128_0_960, k0_pay20 (k0_pay5 x) (k0_pay18 (wq3 w))⟩,
    ⟨Rect.unit (s := S1024x2560) ![0, 800] S1024x128.size inb_S1024x2560_S1024x128_0_800, k0_pay17 (k0_pay5 x) (k0_pay14 (wq2 w))⟩,
    ⟨Rect.unit (s := S1024x2560) ![0, 640] S1024x128.size inb_S1024x2560_S1024x128_0_640, k0_pay16 (k0_pay5 x) (k0_pay14 (wq2 w))⟩,
    ⟨Rect.unit (s := S1024x2560) ![0, 480] S1024x128.size inb_S1024x2560_S1024x128_0_480, k0_pay13 (k0_pay5 x) (k0_pay10 (wq1 w))⟩,
    ⟨Rect.unit (s := S1024x2560) ![0, 320] S1024x128.size inb_S1024x2560_S1024x128_0_320, k0_pay12 (k0_pay5 x) (k0_pay10 (wq1 w))⟩,
    ⟨Rect.unit (s := S1024x2560) ![0, 160] S1024x128.size inb_S1024x2560_S1024x128_0_160, k0_pay9 x (k0_pay6 (wq0 w))⟩,
    ⟨Rect.unit (s := S1024x2560) ![0, 0] S1024x128.size inb_S1024x2560_S1024x128_0_0, k0_pay8 x (k0_pay6 (wq0 w))⟩]

/-- The keys of the sixteen heads, 160 columns to a head: 128 of the up-projected activations, then the shared 32 of the
    rotary part. -/
def outK (x : Vec F S1024x2048 .bf16) (wr : Vec F S2048x32 .f32) (u : Vec F S1024x256 .bf16) (a : Vec F S256x2048 .bf16) : Vec F S1024x2560 .bf16 :=
  View.canon [
    ⟨Rect.unit (s := S1024x2560) ![0, 2528] S1024x32.size inb_S1024x2560_S1024x32_0_2528, k0_pay55 (k0_pay5 x) wr⟩,
    ⟨Rect.unit (s := S1024x2560) ![0, 2400] S1024x128.size inb_S1024x2560_S1024x128_0_2400, k0_pay72 (k0_pay56 u a)⟩,
    ⟨Rect.unit (s := S1024x2560) ![0, 2368] S1024x32.size inb_S1024x2560_S1024x32_0_2368, k0_pay55 (k0_pay5 x) wr⟩,
    ⟨Rect.unit (s := S1024x2560) ![0, 2240] S1024x128.size inb_S1024x2560_S1024x128_0_2240, k0_pay71 (k0_pay56 u a)⟩,
    ⟨Rect.unit (s := S1024x2560) ![0, 2208] S1024x32.size inb_S1024x2560_S1024x32_0_2208, k0_pay55 (k0_pay5 x) wr⟩,
    ⟨Rect.unit (s := S1024x2560) ![0, 2080] S1024x128.size inb_S1024x2560_S1024x128_0_2080, k0_pay70 (k0_pay56 u a)⟩,
    ⟨Rect.unit (s := S1024x2560) ![0, 2048] S1024x32.size inb_S1024x2560_S1024x32_0_2048, k0_pay55 (k0_pay5 x) wr⟩,
    ⟨Rect.unit (s := S1024x2560) ![0, 1920] S1024x128.size inb_S1024x2560_S1024x128_0_1920, k0_pay69 (k0_pay56 u a)⟩,
    ⟨Rect.unit (s := S1024x2560) ![0, 1888] S1024x32.size inb_S1024x2560_S1024x32_0_1888, k0_pay55 (k0_pay5 x) wr⟩,
    ⟨Rect.unit (s := S1024x2560) ![0, 1760] S1024x128.size inb_S1024x2560_S1024x128_0_1760, k0_pay68 (k0_pay56 u a)⟩,
    ⟨Rect.unit (s := S1024x2560) ![0, 1728] S1024x32.size inb_S1024x2560_S1024x32_0_1728, k0_pay55 (k0_pay5 x) wr⟩,
    ⟨Rect.unit (s := S1024x2560) ![0, 1600] S1024x128.size inb_S1024x2560_S1024x128_0_1600, k0_pay67 (k0_pay56 u a)⟩,
    ⟨Rect.unit (s := S1024x2560) ![0, 1568] S1024x32.size inb_S1024x2560_S1024x32_0_1568, k0_pay55 (k0_pay5 x) wr⟩,
    ⟨Rect.unit (s := S1024x2560) ![0, 1440] S1024x128.size inb_S1024x2560_S1024x128_0_1440, k0_pay66 (k0_pay56 u a)⟩,
    ⟨Rect.unit (s := S1024x2560) ![0, 1408] S1024x32.size inb_S1024x2560_S1024x32_0_1408, k0_pay55 (k0_pay5 x) wr⟩,
    ⟨Rect.unit (s := S1024x2560) ![0, 1280] S1024x128.size inb_S1024x2560_S1024x128_0_1280, k0_pay65 (k0_pay56 u a)⟩,
    ⟨Rect.unit (s := S1024x2560) ![0, 1248] S1024x32.size inb_S1024x2560_S1024x32_0_1248, k0_pay55 (k0_pay5 x) wr⟩,
    ⟨Rect.unit (s := S1024x2560) ![0, 1120] S1024x128.size inb_S1024x2560_S1024x128_0_1120, k0_pay64 (k0_pay56 u a)⟩,
    ⟨Rect.unit (s := S1024x2560) ![0, 1088] S1024x32.size inb_S1024x2560_S1024x32_0_1088, k0_pay55 (k0_pay5 x) wr⟩,
    ⟨Rect.unit (s := S1024x2560) ![0, 960] S1024x128.size inb_S1024x2560_S1024x128_0_960, k0_pay63 (k0_pay56 u a)⟩,
    ⟨Rect.unit (s := S1024x2560) ![0, 928] S1024x32.size inb_S1024x2560_S1024x32_0_928, k0_pay55 (k0_pay5 x) wr⟩,
    ⟨Rect.unit (s := S1024x2560) ![0, 800] S1024x128.size inb_S1024x2560_S1024x128_0_800, k0_pay62 (k0_pay56 u a)⟩,
    ⟨Rect.unit (s := S1024x2560) ![0, 768] S1024x32.size inb_S1024x2560_S1024x32_0_768, k0_pay55 (k0_pay5 x) wr⟩,
    ⟨Rect.unit (s := S1024x2560) ![0, 640] S1024x128.size inb_S1024x2560_S1024x128_0_640, k0_pay61 u a⟩,
    ⟨Rect.unit (s := S1024x2560) ![0, 608] S1024x32.size inb_S1024x2560_S1024x32_0_608, k0_pay55 (k0_pay5 x) wr⟩,
    ⟨Rect.unit (s := S1024x2560) ![0, 480] S1024x128.size inb_S1024x2560_S1024x128_0_480, k0_pay60 u a⟩,
    ⟨Rect.unit (s := S1024x2560) ![0, 448] S1024x32.size inb_S1024x2560_S1024x32_0_448, k0_pay55 (k0_pay5 x) wr⟩,
    ⟨Rect.unit (s := S1024x2560) ![0, 320] S1024x128.size inb_S1024x2560_S1024x128_0_320, k0_pay59 u a⟩,
    ⟨Rect.unit (s := S1024x2560) ![0, 288] S1024x32.size inb_S1024x2560_S1024x32_0_288, k0_pay55 (k0_pay5 x) wr⟩,
    ⟨Rect.unit (s := S1024x2560) ![0, 160] S1024x128.size inb_S1024x2560_S1024x128_0_160, k0_pay58 u a⟩,
    ⟨Rect.unit (s := S1024x2560) ![0, 128] S1024x32.size inb_S1024x2560_S1024x32_0_128, k0_pay55 (k0_pay5 x) wr⟩,
    ⟨Rect.unit (s := S1024x2560) ![0, 0] S1024x128.size inb_S1024x2560_S1024x128_0_0, k0_pay57 u a⟩]

/-- The values: the activations up-projected. -/
def outV (u : Vec F S1024x256 .bf16) (b : Vec F S256x2048 .bf16) : Vec F S1024x2048 .bf16 :=
  View.canon [⟨Rect.unit (s := S1024x2048) ![0, 0] S1024x2048.size inb_S1024x2048_S1024x2048_0_0, k0_pay1 u b⟩]

end Cert.KernelIdeal.Talk
-- ==== Proof.Body0.lean ====
/-
  The body of the first kernel, run once.
-/
module

public import proofs.«01_k».proof.Proof.Halves
public import proofs.«01_k».proof.Proof.Outs
public import Idealize.ShloMosaic.Lib.Tactic.RunNames

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)

variable {F : FTy → Type} [FloatOps F]

local notation "𝕄" => MT nD τ sig Unit (Elt F) ℕ UU ℕ

variable (X : Vals F)

attribute [local sl_rounds] pr_pr duties_bar duties_sA duties_sB duties_sC duties_rA duties_rB duties_rC
  amount_bar amount_sA amount_sB amount_sC amount_rA amount_rB amount_rC
  payload_bar payload_sA payload_sB payload_sC payload_rA payload_rB payload_rC
  expect_bar expect_sA expect_sB expect_sC expect_rA expect_rB expect_rC

/-- A staging buffer or scratch buffer held whole at the tensor x. -/
abbrev pt {s : Shape} {e : EltTy} (v : Memref sig .tc .vmem s e) (c : Dev nD) (x : s.Idx → Elt F e) : sProp 𝕄 :=
  v.view.loc (c : Thread nD τ) ↦[v.view.set]{fullShare} v.view.rep x

/-- What the body leaves: the seven cells past their round, nothing owed, the scratch buffers at contents not named, the
    inputs as they were, the three result blocks. -/
def fin0 (K : GSem nD τ sig → ℕ) (c : Dev nD)
    (x0 : Vec F S1024x2048 .bf16) (x1 : Vec F S2048x128 .f32) (x2 x3 : Vec F S128x2048 .f32) (x4 : Vec F S2048x2048 .f32)
    (x5 : Vec F S2048x512 .f32) (x6 : Vec F S2048x32 .f32)
    (m0 : Memref sig .tc .vmem S1024x2048 .bf16) (m1 : Memref sig .tc .vmem S2048x128 .f32)
    (m2 : Memref sig .tc .vmem S128x2048 .f32) (m3 : Memref sig .tc .vmem S128x2048 .f32)
    (m4 : Memref sig .tc .vmem S2048x2048 .f32) (m5 : Memref sig .tc .vmem S2048x512 .f32)
    (m6 : Memref sig .tc .vmem S2048x32 .f32) (m7 : Memref sig .tc .vmem S1024x2560 .bf16)
    (m8 : Memref sig .tc .vmem S1024x2560 .bf16) (m9 : Memref sig .tc .vmem S1024x2048 .bf16) : sProp 𝕄 :=
  iprop((invs X K c ∗ atPos ER (barCell c) 1 ∅ 0 ∗ atPos ER (at' c sA) 1 ∅ 0 ∗ atPos ER (at' c sB) 1 ∅ 0 ∗ atPos ER (at' c sC) 1 ∅ 0
      ∗ atPos ER (at' c rA) 1 ∅ 0 ∗ atPos ER (at' c rB) 1 ∅ 0 ∗ atPos ER (at' c rC) 1 ∅ 0)
    ∗ (∃ W, owes (c : Thread nD τ) 0 W)
    ∗ ((∃ x, pt aM c x) ∗ (∃ x, pt bM c x) ∗ (∃ x, pt cM c x) ∗ (∃ x, pt (Memref.whole cc0_scratch3) c x) ∗ (∃ x, pt (Memref.whole cc0_scratch4) c x))
    ∗ pt m0 c x0 ∗ pt m1 c x1 ∗ pt m2 c x2 ∗ pt m3 c x3 ∗ pt m4 c x4 ∗ pt m5 c x5 ∗ pt m6 c x6
    ∗ pt m7 c (outQ x0 x4 x5)
    ∗ pt m8 c (outK x0 x6 (cat2 rLeft rRight (X.C c) (X.C (pr c))) (cat2 rTop rBot (X.A c) (X.A (pr c))))
    ∗ pt m9 c (outV (cat2 rLeft rRight (X.C c) (X.C (pr c))) (cat2 rTop rBot (X.B c) (X.B (pr c)))))

/-- A buffer written over contents not named holds what the stores leave. -/
theorem canon_pt {s : Shape} {e : EltTy} (v : Memref sig .tc .vmem s e) (c : Dev nD) (ps : List (View.Piece (Elt F) s e)) :
    (v.view.loc (c : Thread nD τ) ↦[v.view.set]{fullShare} v.view.writes (Elt F) v.view.junk ps : sProp 𝕄) ⊢ pt v c (View.canon ps) := by
  have h := pointsTo_rep_entails (Ix := Unit) (Name := ℕ) (U := UU) (Lvl := ℕ) (c : Thread nD τ) v (v.view.writes (Elt F) v.view.junk ps) fullShare
  rw [View.read_writes_junk_eq_canon] at h
  exact h

/-- A load of the rectangle stored last reads what was stored. -/
theorem readCov_top {s : Shape} {e : EltTy} (v : Memref sig .tc .vmem s e) (r : Rect s) (p : r.shape.Idx → Elt F e) (ps : List (View.Piece (Elt F) s e)) :
    v.view.readCov (⟨r, p⟩ :: ps) r.toLoadRect = p := by
  funext j
  exact View.read_writes_cons_emb v.view v.view.junk r p ps j

set_option maxHeartbeats 4000000 in
theorem run0 (K : GSem nD τ sig → ℕ) (c : Dev nD) (W : Waits sig Unit)
    (m0 : Memref sig .tc .vmem S1024x2048 .bf16) (h0 : m0.IsWhole) (m1 : Memref sig .tc .vmem S2048x128 .f32) (h1 : m1.IsWhole)
    (m2 : Memref sig .tc .vmem S128x2048 .f32) (h2 : m2.IsWhole) (m3 : Memref sig .tc .vmem S128x2048 .f32) (h3 : m3.IsWhole)
    (m4 : Memref sig .tc .vmem S2048x2048 .f32) (h4 : m4.IsWhole) (m5 : Memref sig .tc .vmem S2048x512 .f32) (h5 : m5.IsWhole)
    (m6 : Memref sig .tc .vmem S2048x32 .f32) (h6 : m6.IsWhole) (m7 : Memref sig .tc .vmem S1024x2560 .bf16) (h7 : m7.IsWhole)
    (m8 : Memref sig .tc .vmem S1024x2560 .bf16) (h8 : m8.IsWhole) (m9 : Memref sig .tc .vmem S1024x2048 .bf16) (h9 : m9.IsWhole)
    (x0 : Vec F S1024x2048 .bf16) (x1 : Vec F S2048x128 .f32) (x2 x3 : Vec F S128x2048 .f32) (x4 : Vec F S2048x2048 .f32)
    (x5 : Vec F S2048x512 .f32) (x6 : Vec F S2048x32 .f32) (x7 x8 : Vec F S1024x2560 .bf16) (x9 : Vec F S1024x2048 .bf16)
    (hA : X.A c = k0_pay2 x2) (hB : X.B c = k0_pay3 x3) (hC : X.C c = k0_pay4 x0 x1)
    (Kt : PUnit → sProp 𝕄) :
    iprop((opened X K c ∗ creds c ∗ levAts L lv ∗ owes (c : Thread nD τ) (O₀ c) W
        ∗ (∃ f, half aO c f) ∗ (∃ f, half bO c f) ∗ (∃ f, half cO c f)
        ∗ anyHalf aL c ∗ anyHalf bL c ∗ anyHalf cL c
        ∗ (∃ x, pt (Memref.whole cc0_scratch3) c x) ∗ (∃ x, pt (Memref.whole cc0_scratch4) c x)
        ∗ pt m0 c x0 ∗ pt m1 c x1 ∗ pt m2 c x2 ∗ pt m3 c x3 ∗ pt m4 c x4 ∗ pt m5 c x5 ∗ pt m6 c x6
        ∗ pt m7 c x7 ∗ pt m8 c x8 ∗ pt m9 c x9)
        ∗ (fin0 X K c x0 x1 x2 x3 x4 x5 x6 m0 m1 m2 m3 m4 m5 m6 m7 m8 m9 -∗ Kt ⟨⟩))
      ⊢ wp frame (wpE (defs₀ (F := F)) 𝒱₀ c none) Set.univ
          (cc0_body m0 h0 m1 h1 m2 h2 m3 h3 m4 h4 m5 h5 m6 h6 m7 h7 m8 h8 m9 h9 cM (Memref.isWhole_whole _) aM (Memref.isWhole_whole _)
            bM (Memref.isWhole_whole _) (Memref.whole cc0_scratch3) (Memref.isWhole_whole _) (Memref.whole cc0_scratch4) (Memref.isWhole_whole _)
            cc0_scratch5 cc0_scratch6) Kt := by
  unfold opened invs creds toks O₀ O₁
  iintro ⟨⟨⟨⟨#HIb, #HIsA, #HIsB, #HIsC, #HIrA, #HIrB, #HIrC, #HIbP, #HIrAP, #HIrBP, #HIrCP⟩, ⟨Hatb, HatsA, HatsB, HatsC, HatrA, HatrB, HatrC⟩,
    ⟨#HrbP, #HrsA, #HrsB, #HrsC, #HrrA, #HrrB, #HrrC⟩, HtbP, HtrAP, HtrBP, HtrCP, Hts⟩, ⟨Hcb, HcrA, HcrB, HcrC⟩, #Hlev, HO,
    ⟨%fa, HaO⟩, ⟨%fb, HbO⟩, ⟨%fc, HcO⟩, HaL, HbL, HcL, ⟨%y3, Hy3⟩, ⟨%y4, Hy4⟩,
    H0, H1, H2, H3, H4, H5, H6, H7, H8, H9⟩, Hk⟩
  ihave #HMW := (mayWait_bar (F := F) c) $$ Hlev
  unfold O₁
  have hd1 := dev1_eq c
  have hd2 := dev2_eq c
  have hd3 := dev3_eq c
  have hd4 := dev4_eq c
  rw [cc0_body_eq_skeleton]
  unfold cc0_body_skel
  sl_exec
  icases Hatb_pay1 with ⟨%ga, Hatb_pay1⟩
  icases Hatb_pay2 with ⟨%gb, Hatb_pay2⟩
  icases Hatb_pay3 with ⟨%gc, Hatb_pay3⟩
  unfold half
  have eA : View.read (Elt F) aO.view (run0.sl.HaO_w1 c m2 x2 fa) = X.A c := by
    unfold run0.sl.HaO_w1
    rw [View.readAt_rep_full, hA]
    exact View.read_write_univ _ _
  ihave HaO := (holds_of aO c _ _ eA) $$ HaO
  icases Hts with ⟨HtsA, Hts⟩
  sl_exec
  have eB : View.read (Elt F) bO.view (run0.sl.HbO_w1 c m3 x3 fb) = X.B c := by
    unfold run0.sl.HbO_w1
    rw [View.readAt_rep_full, hB]
    exact View.read_write_univ _ _
  ihave HbO := (holds_of bO c _ _ eB) $$ HbO
  icases Hts with ⟨HtsB, HtsC⟩
  ihave HtsC := (park (dutyTok ER (at' c sC) 0 () : sProp 𝕄)) $$ HtsC
  sl_exec
  have eC : View.read (Elt F) cO.view (run0.sl.HcO_w1 c m0 m1 x0 x1 fc) = X.C c := by
    unfold run0.sl.HcO_w1
    rw [View.readAt_rep_full, View.readAt_rep_full, hC]
    exact View.read_write_univ _ _
  ihave HcO := (holds_of cO c _ _ eC) $$ HcO
  ihave HtsC := (unpark (dutyTok ER (at' c sC) 0 () : sProp 𝕄)) $$ HtsC
  sl_exec
  ihave HA := (join2 aM rTop rBot (fun _ => rfl) (fun _ => rfl) c cov_rows dis_rows _ _ (X.A c) (X.A (pr c)) (View.read_rep _ _)
    ((View.read_write_univ _ _).trans (View.read_rep _ _))) $$ [HatsA_pay1 HatrA_pay1]
  · isplitl [HatsA_pay1]; · iexact HatsA_pay1
    iexact HatrA_pay1
  ihave HB := (join2 bM rTop rBot (fun _ => rfl) (fun _ => rfl) c cov_rows dis_rows _ _ (X.B c) (X.B (pr c)) (View.read_rep _ _)
    ((View.read_write_univ _ _).trans (View.read_rep _ _))) $$ [HatsB_pay1 HatrB_pay1]
  · isplitl [HatsB_pay1]; · iexact HatsB_pay1
    iexact HatrB_pay1
  ihave HC := (join2 cM rLeft rRight (fun _ => rfl) (fun _ => rfl) c cov_cols dis_cols _ _ (X.C c) (X.C (pr c)) (View.read_rep _ _)
    ((View.read_write_univ _ _).trans (View.read_rep _ _))) $$ [HatsC_pay1 HatrC_pay1]
  · isplitl [HatsC_pay1]; · iexact HatsC_pay1
    iexact HatrC_pay1
  sl_exec!
  sl_step
  iapply Hk
  unfold fin0
  isplitl [Hatb HatsA HatsB HatsC HatrA HatrB HatrC]
  · isplitr
    · unfold invs
      isplitr; · iexact HIb
      isplitr; · iexact HIsA
      isplitr; · iexact HIsB
      isplitr; · iexact HIsC
      isplitr; · iexact HIrA
      isplitr; · iexact HIrB
      isplitr; · iexact HIrC
      isplitr; · iexact HIbP
      isplitr; · iexact HIrAP
      isplitr; · iexact HIrBP
      iexact HIrCP
    isplitl [Hatb]; · iexact Hatb
    isplitl [HatsA]; · iexact HatsA
    isplitl [HatsB]; · iexact HatsB
    isplitl [HatsC]; · iexact HatsC
    isplitl [HatrA]; · iexact HatrA
    isplitl [HatrB]; · iexact HatrB
    iexact HatrC
  isplitl [HO]; · iexists _; iexact HO
  isplitl [HA HB HC Hy3 Hy4]
  · isplitl [HA]; · iexists _; iexact HA
    isplitl [HB]; · iexists _; iexact HB
    isplitl [HC]; · iexists _; iexact HC
    isplitl [Hy3]
    · iexists _; iapply (canon_pt (Memref.whole cc0_scratch3) c _) $$ Hy3
    iexists _; iapply (canon_pt (Memref.whole cc0_scratch4) c _) $$ Hy4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · ihave H7 := (canon_pt m7 c _) $$ H7
    sl_unfold_run_values
    delta run0.sl.Hy3_1 run0.sl.Hy3_2 run0.sl.Hy3_3 run0.sl.Hy3_4 run0.sl.Hy4_1 run0.sl.Hy4_2 run0.sl.Hy4_3 run0.sl.Hy4_4
    simp only [↓View.readAt_rep_full, ↓readCov_top, View.readAt_rep]
    unfold outQ
    iexact H7
  isplitl [H8]
  · ihave H8 := (canon_pt m8 c _) $$ H8
    delta run0.sl.H8_32
    sl_unfold_run_values
    simp only [↓View.readAt_rep_full, ↓readCov_top]
    unfold outK
    iexact H8
  · ihave H9 := (canon_pt m9 c _) $$ H9
    delta run0.sl.H9_1
    sl_unfold_run_values
    simp only [↓View.readAt_rep_full, ↓readCov_top]
    unfold outV
    iexact H9

end Cert.KernelIdeal.Talk
-- ==== Proof.Outs1.lean ====
/-
  What the second kernel computes from a block of queries, keys and values: the heads' outputs, and their projection.
-/
module

public import proofs.«01_k».proof.Proof.Common

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev hq0 (x : Vec F S512x2560 .bf16) : Vec F S512x160 .bf16 := View.ld x (Rect.unit (s := S512x2560) ![0, 0] S512x160.size inb_S512x2560_S512x160_0_0)

abbrev hv0 (x : Vec F S512x2048 .bf16) : Vec F S512x128 .bf16 := View.ld x (Rect.unit (s := S512x2048) ![0, 0] S512x128.size inb_S512x2048_S512x128_0_0)

abbrev hq1 (x : Vec F S512x2560 .bf16) : Vec F S512x160 .bf16 := View.ld x (Rect.unit (s := S512x2560) ![0, 160] S512x160.size inb_S512x2560_S512x160_0_160)

abbrev hv1 (x : Vec F S512x2048 .bf16) : Vec F S512x128 .bf16 := View.ld x (Rect.unit (s := S512x2048) ![0, 128] S512x128.size inb_S512x2048_S512x128_0_128)

abbrev hq2 (x : Vec F S512x2560 .bf16) : Vec F S512x160 .bf16 := View.ld x (Rect.unit (s := S512x2560) ![0, 320] S512x160.size inb_S512x2560_S512x160_0_320)

abbrev hv2 (x : Vec F S512x2048 .bf16) : Vec F S512x128 .bf16 := View.ld x (Rect.unit (s := S512x2048) ![0, 256] S512x128.size inb_S512x2048_S512x128_0_256)

abbrev hq3 (x : Vec F S512x2560 .bf16) : Vec F S512x160 .bf16 := View.ld x (Rect.unit (s := S512x2560) ![0, 480] S512x160.size inb_S512x2560_S512x160_0_480)

abbrev hv3 (x : Vec F S512x2048 .bf16) : Vec F S512x128 .bf16 := View.ld x (Rect.unit (s := S512x2048) ![0, 384] S512x128.size inb_S512x2048_S512x128_0_384)

abbrev hq4 (x : Vec F S512x2560 .bf16) : Vec F S512x160 .bf16 := View.ld x (Rect.unit (s := S512x2560) ![0, 640] S512x160.size inb_S512x2560_S512x160_0_640)

abbrev hv4 (x : Vec F S512x2048 .bf16) : Vec F S512x128 .bf16 := View.ld x (Rect.unit (s := S512x2048) ![0, 512] S512x128.size inb_S512x2048_S512x128_0_512)

abbrev hq5 (x : Vec F S512x2560 .bf16) : Vec F S512x160 .bf16 := View.ld x (Rect.unit (s := S512x2560) ![0, 800] S512x160.size inb_S512x2560_S512x160_0_800)

abbrev hv5 (x : Vec F S512x2048 .bf16) : Vec F S512x128 .bf16 := View.ld x (Rect.unit (s := S512x2048) ![0, 640] S512x128.size inb_S512x2048_S512x128_0_640)

abbrev hq6 (x : Vec F S512x2560 .bf16) : Vec F S512x160 .bf16 := View.ld x (Rect.unit (s := S512x2560) ![0, 960] S512x160.size inb_S512x2560_S512x160_0_960)

abbrev hv6 (x : Vec F S512x2048 .bf16) : Vec F S512x128 .bf16 := View.ld x (Rect.unit (s := S512x2048) ![0, 768] S512x128.size inb_S512x2048_S512x128_0_768)

abbrev hq7 (x : Vec F S512x2560 .bf16) : Vec F S512x160 .bf16 := View.ld x (Rect.unit (s := S512x2560) ![0, 1120] S512x160.size inb_S512x2560_S512x160_0_1120)

abbrev hv7 (x : Vec F S512x2048 .bf16) : Vec F S512x128 .bf16 := View.ld x (Rect.unit (s := S512x2048) ![0, 896] S512x128.size inb_S512x2048_S512x128_0_896)

abbrev hq8 (x : Vec F S512x2560 .bf16) : Vec F S512x160 .bf16 := View.ld x (Rect.unit (s := S512x2560) ![0, 1280] S512x160.size inb_S512x2560_S512x160_0_1280)

abbrev hv8 (x : Vec F S512x2048 .bf16) : Vec F S512x128 .bf16 := View.ld x (Rect.unit (s := S512x2048) ![0, 1024] S512x128.size inb_S512x2048_S512x128_0_1024)

abbrev hq9 (x : Vec F S512x2560 .bf16) : Vec F S512x160 .bf16 := View.ld x (Rect.unit (s := S512x2560) ![0, 1440] S512x160.size inb_S512x2560_S512x160_0_1440)

abbrev hv9 (x : Vec F S512x2048 .bf16) : Vec F S512x128 .bf16 := View.ld x (Rect.unit (s := S512x2048) ![0, 1152] S512x128.size inb_S512x2048_S512x128_0_1152)

abbrev hq10 (x : Vec F S512x2560 .bf16) : Vec F S512x160 .bf16 := View.ld x (Rect.unit (s := S512x2560) ![0, 1600] S512x160.size inb_S512x2560_S512x160_0_1600)

abbrev hv10 (x : Vec F S512x2048 .bf16) : Vec F S512x128 .bf16 := View.ld x (Rect.unit (s := S512x2048) ![0, 1280] S512x128.size inb_S512x2048_S512x128_0_1280)

abbrev hq11 (x : Vec F S512x2560 .bf16) : Vec F S512x160 .bf16 := View.ld x (Rect.unit (s := S512x2560) ![0, 1760] S512x160.size inb_S512x2560_S512x160_0_1760)

abbrev hv11 (x : Vec F S512x2048 .bf16) : Vec F S512x128 .bf16 := View.ld x (Rect.unit (s := S512x2048) ![0, 1408] S512x128.size inb_S512x2048_S512x128_0_1408)

abbrev hq12 (x : Vec F S512x2560 .bf16) : Vec F S512x160 .bf16 := View.ld x (Rect.unit (s := S512x2560) ![0, 1920] S512x160.size inb_S512x2560_S512x160_0_1920)

abbrev hv12 (x : Vec F S512x2048 .bf16) : Vec F S512x128 .bf16 := View.ld x (Rect.unit (s := S512x2048) ![0, 1536] S512x128.size inb_S512x2048_S512x128_0_1536)

abbrev hq13 (x : Vec F S512x2560 .bf16) : Vec F S512x160 .bf16 := View.ld x (Rect.unit (s := S512x2560) ![0, 2080] S512x160.size inb_S512x2560_S512x160_0_2080)

abbrev hv13 (x : Vec F S512x2048 .bf16) : Vec F S512x128 .bf16 := View.ld x (Rect.unit (s := S512x2048) ![0, 1664] S512x128.size inb_S512x2048_S512x128_0_1664)

abbrev hq14 (x : Vec F S512x2560 .bf16) : Vec F S512x160 .bf16 := View.ld x (Rect.unit (s := S512x2560) ![0, 2240] S512x160.size inb_S512x2560_S512x160_0_2240)

abbrev hv14 (x : Vec F S512x2048 .bf16) : Vec F S512x128 .bf16 := View.ld x (Rect.unit (s := S512x2048) ![0, 1792] S512x128.size inb_S512x2048_S512x128_0_1792)

abbrev hq15 (x : Vec F S512x2560 .bf16) : Vec F S512x160 .bf16 := View.ld x (Rect.unit (s := S512x2560) ![0, 2400] S512x160.size inb_S512x2560_S512x160_0_2400)

abbrev hv15 (x : Vec F S512x2048 .bf16) : Vec F S512x128 .bf16 := View.ld x (Rect.unit (s := S512x2048) ![0, 1920] S512x128.size inb_S512x2048_S512x128_0_1920)

/-- What head 0 stores. -/
def ho0 (q k : Vec F S512x2560 .bf16) (v : Vec F S512x2048 .bf16) : Vec F S512x128 .bf16 := k1_pay3 (hq0 q) (hq0 k) (hv0 v)

/-- What head 1 stores. -/
def ho1 (q k : Vec F S512x2560 .bf16) (v : Vec F S512x2048 .bf16) : Vec F S512x128 .bf16 := k1_pay7 (k1_pay5 (hq1 q) (hq1 k) (hv1 v)) (k1_pay6 (hq1 q) (hq1 k))

/-- What head 2 stores. -/
def ho2 (q k : Vec F S512x2560 .bf16) (v : Vec F S512x2048 .bf16) : Vec F S512x128 .bf16 := k1_pay9 (hq2 q) (hq2 k) (hv2 v)

/-- What head 3 stores. -/
def ho3 (q k : Vec F S512x2560 .bf16) (v : Vec F S512x2048 .bf16) : Vec F S512x128 .bf16 := k1_pay12 (k1_pay10 (hq3 q)) (k1_pay11 (hq3 k)) (hv3 v)

/-- What head 4 stores. -/
def ho4 (q k : Vec F S512x2560 .bf16) (v : Vec F S512x2048 .bf16) : Vec F S512x128 .bf16 := k1_pay13 (hq4 q) (hq4 k) (hv4 v)

/-- What head 5 stores. -/
def ho5 (q k : Vec F S512x2560 .bf16) (v : Vec F S512x2048 .bf16) : Vec F S512x128 .bf16 := k1_pay14 (hq5 q) (hq5 k) (hv5 v)

/-- What head 6 stores. -/
def ho6 (q k : Vec F S512x2560 .bf16) (v : Vec F S512x2048 .bf16) : Vec F S512x128 .bf16 := k1_pay20 (k1_pay17 (hq6 q) (hq6 k) (hv6 v)) (k1_pay18 (hq6 q) (hq6 k)) k1_pay19

/-- What head 7 stores. -/
def ho7 (q k : Vec F S512x2560 .bf16) (v : Vec F S512x2048 .bf16) : Vec F S512x128 .bf16 := k1_pay21 (hq7 q) (hq7 k) (hv7 v)

/-- What head 8 stores. -/
def ho8 (q k : Vec F S512x2560 .bf16) (v : Vec F S512x2048 .bf16) : Vec F S512x128 .bf16 := k1_pay25 (k1_pay22 (hq8 q) (hq8 k)) (k1_pay23 (hq8 q) (hq8 k)) (k1_pay24 (hv8 v)) (constant S512x128 .f32 0x00000000#32)

/-- What head 9 stores. -/
def ho9 (q k : Vec F S512x2560 .bf16) (v : Vec F S512x2048 .bf16) : Vec F S512x128 .bf16 := k1_pay26 (hq9 q) (hq9 k) (hv9 v)

/-- What head 10 stores. -/
def ho10 (q k : Vec F S512x2560 .bf16) (v : Vec F S512x2048 .bf16) : Vec F S512x128 .bf16 := k1_pay29 (k1_pay28 (hq10 q)) (hq10 k) (hv10 v)

/-- What head 11 stores. -/
def ho11 (q k : Vec F S512x2560 .bf16) (v : Vec F S512x2048 .bf16) : Vec F S512x128 .bf16 := k1_pay30 (hq11 q) (hq11 k) (hv11 v)

/-- What head 12 stores. -/
def ho12 (q k : Vec F S512x2560 .bf16) (v : Vec F S512x2048 .bf16) : Vec F S512x128 .bf16 := k1_pay31 (hq12 q) (hq12 k) (hv12 v)

/-- What head 13 stores. -/
def ho13 (q k : Vec F S512x2560 .bf16) (v : Vec F S512x2048 .bf16) : Vec F S512x128 .bf16 := k1_pay33 (k1_pay32 (hq13 q) (hq13 k) (hv13 v))

/-- What head 14 stores. -/
def ho14 (q k : Vec F S512x2560 .bf16) (v : Vec F S512x2048 .bf16) : Vec F S512x128 .bf16 := k1_pay35 (hq14 q) (hq14 k) (hv14 v)

/-- What head 15 stores. -/
def ho15 (q k : Vec F S512x2560 .bf16) (v : Vec F S512x2048 .bf16) : Vec F S512x128 .bf16 := k1_pay1 (k1_pay36 (hq15 q) (hq15 k)) (k1_pay37 (hq15 q) (hq15 k)) (hv15 v)

/-- The sixteen heads' outputs, side by side. -/
def outH (q k : Vec F S512x2560 .bf16) (v : Vec F S512x2048 .bf16) : Vec F S512x2048 .bf16 :=
  View.canon [
    ⟨Rect.unit (s := S512x2048) ![0, 1920] S512x128.size inb_S512x2048_S512x128_0_1920, ho15 q k v⟩,
    ⟨Rect.unit (s := S512x2048) ![0, 1792] S512x128.size inb_S512x2048_S512x128_0_1792, ho14 q k v⟩,
    ⟨Rect.unit (s := S512x2048) ![0, 1664] S512x128.size inb_S512x2048_S512x128_0_1664, ho13 q k v⟩,
    ⟨Rect.unit (s := S512x2048) ![0, 1536] S512x128.size inb_S512x2048_S512x128_0_1536, ho12 q k v⟩,
    ⟨Rect.unit (s := S512x2048) ![0, 1408] S512x128.size inb_S512x2048_S512x128_0_1408, ho11 q k v⟩,
    ⟨Rect.unit (s := S512x2048) ![0, 1280] S512x128.size inb_S512x2048_S512x128_0_1280, ho10 q k v⟩,
    ⟨Rect.unit (s := S512x2048) ![0, 1152] S512x128.size inb_S512x2048_S512x128_0_1152, ho9 q k v⟩,
    ⟨Rect.unit (s := S512x2048) ![0, 1024] S512x128.size inb_S512x2048_S512x128_0_1024, ho8 q k v⟩,
    ⟨Rect.unit (s := S512x2048) ![0, 896] S512x128.size inb_S512x2048_S512x128_0_896, ho7 q k v⟩,
    ⟨Rect.unit (s := S512x2048) ![0, 768] S512x128.size inb_S512x2048_S512x128_0_768, ho6 q k v⟩,
    ⟨Rect.unit (s := S512x2048) ![0, 640] S512x128.size inb_S512x2048_S512x128_0_640, ho5 q k v⟩,
    ⟨Rect.unit (s := S512x2048) ![0, 512] S512x128.size inb_S512x2048_S512x128_0_512, ho4 q k v⟩,
    ⟨Rect.unit (s := S512x2048) ![0, 384] S512x128.size inb_S512x2048_S512x128_0_384, ho3 q k v⟩,
    ⟨Rect.unit (s := S512x2048) ![0, 256] S512x128.size inb_S512x2048_S512x128_0_256, ho2 q k v⟩,
    ⟨Rect.unit (s := S512x2048) ![0, 128] S512x128.size inb_S512x2048_S512x128_0_128, ho1 q k v⟩,
    ⟨Rect.unit (s := S512x2048) ![0, 0] S512x128.size inb_S512x2048_S512x128_0_0, ho0 q k v⟩]

abbrev wr0 (x : Vec F S2048x2048 .f32) : Vec F S512x2048 .f32 := View.ld x (Rect.unit (s := S2048x2048) ![0, 0] S512x2048.size inb_S2048x2048_S512x2048_0_0)

abbrev wr1 (x : Vec F S2048x2048 .f32) : Vec F S512x2048 .f32 := View.ld x (Rect.unit (s := S2048x2048) ![512, 0] S512x2048.size inb_S2048x2048_S512x2048_512_0)

abbrev wr2 (x : Vec F S2048x2048 .f32) : Vec F S512x2048 .f32 := View.ld x (Rect.unit (s := S2048x2048) ![1024, 0] S512x2048.size inb_S2048x2048_S512x2048_1024_0)

abbrev wr3 (x : Vec F S2048x2048 .f32) : Vec F S512x2048 .f32 := View.ld x (Rect.unit (s := S2048x2048) ![1536, 0] S512x2048.size inb_S2048x2048_S512x2048_1536_0)

/-- The output projection's weights at the narrow format, copied in by quarters. -/
def outW (w : Vec F S2048x2048 .f32) : Vec F S2048x2048 .bf16 :=
  View.canon [
    ⟨Rect.unit (s := S2048x2048) ![1536, 0] S512x2048.size inb_S2048x2048_S512x2048_1536_0, k1_pay34 (wr3 w)⟩,
    ⟨Rect.unit (s := S2048x2048) ![1024, 0] S512x2048.size inb_S2048x2048_S512x2048_1024_0, k1_pay27 (wr2 w)⟩,
    ⟨Rect.unit (s := S2048x2048) ![512, 0] S512x2048.size inb_S2048x2048_S512x2048_512_0, k1_pay15 (wr1 w)⟩,
    ⟨Rect.unit (s := S2048x2048) ![0, 0] S512x2048.size inb_S2048x2048_S512x2048_0_0, k1_pay8 (wr0 w)⟩]

/-- The block of the result: the heads' outputs, projected. -/
def outO (q k : Vec F S512x2560 .bf16) (v : Vec F S512x2048 .bf16) (w : Vec F S2048x2048 .bf16) : Vec F S512x2048 .f32 :=
  View.canon [⟨Rect.unit (s := S512x2048) ![0, 0] S512x2048.size inb_S512x2048_S512x2048_0_0, k1_pay2 (outH q k v) w⟩]

end Cert.KernelIdeal.Talk
-- ==== Proof.Body1.lean ====
/-
  The body of the second kernel, run once at each of its two grid points.
-/
module

public import proofs.«01_k».proof.Proof.Body0
public import proofs.«01_k».proof.Proof.Outs1
public import Idealize.ShloMosaic.Lib.Tactic.RunNames

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)

variable {F : FTy → Type} [FloatOps F]

local notation "𝕄" => MT nD τ sig Unit (Elt F) ℕ UU ℕ

/-- An array of the large memory held whole at the tensor x. -/
abbrev ptH {s : Shape} {e : EltTy} (v : Memref sig .tc .hbm s e) (c : Dev nD) (x : s.Idx → Elt F e) : sProp 𝕄 :=
  v.view.loc (c : Thread nD τ) ↦[v.view.set]{fullShare} v.view.rep x

/-- The one semaphore of the second kernel's own copies. -/
abbrev sW : SemLoc sig := .dma (24 : DmaSem sig)

/-- A load of the whole block reads what the stores before it leave. -/
theorem readCov_all {s : Shape} {e : EltTy} (v : View sig .tc .vmem s e) (ps : List (View.Piece (Elt F) s e)) {off : Fin s.rank → ℕ}
    (inb : ∀ a, off a + s.size a ≤ s.size a) : v.readCov ps (Rect.unit off s.size inb).toLoadRect = View.canon ps := by
  rw [View.readCov_eq_canon']
  funext y
  exact congrArg _ (funext fun a => Fin.ext (by
    show off a + 1 * (y a).val = (y a).val
    have := inb a; omega))

/-- Contents last stored whole are what was stored. -/
theorem canon_whole {s : Shape} {e : EltTy} (p : s.Idx → Elt F e) (ps : List (View.Piece (Elt F) s e)) :
    View.canon (⟨Rect.whole s, p⟩ :: ps) = p := by
  funext y
  have h := View.canon_cons_emb (Rect.whole s) p ps y
  rwa [show (Rect.whole s).emb y = y from funext fun a => Fin.ext (by show 0 + 1 * (y a).val = _; omega)] at h

/-- The same of a store through the window that is the whole block. -/
theorem canon_top {s : Shape} {e : EltTy} (ps : List (View.Piece (Elt F) s e)) {off : Fin s.rank → ℕ}
    (inb : ∀ a, off a + s.size a ≤ s.size a) (p : s.Idx → Elt F e) :
    View.canon (⟨Rect.unit off s.size inb, p⟩ :: ps) = p := by
  funext y
  have h := View.canon_cons_emb (Rect.unit off s.size inb) p ps y
  rwa [show (Rect.unit off s.size inb).emb y = y from funext fun a => Fin.ext (by
    show off a + 1 * (y a).val = _
    have := inb a; omega)] at h

/-- The block of the result, read off its one store. -/
theorem outO_eq (q k : Vec F S512x2560 .bf16) (v : Vec F S512x2048 .bf16) (w : Vec F S2048x2048 .bf16) :
    outO q k v w = k1_pay2 (outH q k v) w := canon_top _ _ _

/-- A load of a landing buffer reads the copy that arrived last. -/
theorem land2 (p : S512x2048.Idx → Elt F .f32) (ps : List (View.Piece (Elt F) cc1_scratch2.ty.shape cc1_scratch2.ty.elt)) :
    (View.whole cc1_scratch2).readCov (@List.cons (View.Piece (Elt F) cc1_scratch2.ty.shape cc1_scratch2.ty.elt) ⟨Rect.whole cc1_scratch2.ty.shape, ReadAs.same.apply p⟩ ps)
      (Rect.unit ![0, 0] S512x2048.size inb_S512x2048_S512x2048_0_0).toLoadRect = p :=
  (readCov_all (s := S512x2048) (View.whole cc1_scratch2) (⟨Rect.whole S512x2048, p⟩ :: ps) inb_S512x2048_S512x2048_0_0).trans (canon_whole p ps)

/-- A load of a landing buffer reads the copy that arrived last. -/
theorem land3 (p : S512x2048.Idx → Elt F .f32) (ps : List (View.Piece (Elt F) cc1_scratch3.ty.shape cc1_scratch3.ty.elt)) :
    (View.whole cc1_scratch3).readCov (@List.cons (View.Piece (Elt F) cc1_scratch3.ty.shape cc1_scratch3.ty.elt) ⟨Rect.whole cc1_scratch3.ty.shape, ReadAs.same.apply p⟩ ps)
      (Rect.unit ![0, 0] S512x2048.size inb_S512x2048_S512x2048_0_0).toLoadRect = p :=
  (readCov_all (s := S512x2048) (View.whole cc1_scratch3) (⟨Rect.whole S512x2048, p⟩ :: ps) inb_S512x2048_S512x2048_0_0).trans (canon_whole p ps)

/-- A slice of a buffer that holds x holds the window of x. -/
theorem read_slice_rep {s : Shape} {e : EltTy} {sp : Space} (v : View sig .tc sp s e) (r : Rect s) (x : s.Idx → Elt F e) :
    View.read (Elt F) (v.slice r) (v.rep x) = View.ld x r :=
  View.readAt_rep v r.toLoadRect x

/-- What the body leaves at a grid point: the blocks as they were, the block of the result, the heads' scratch and the two
    landing buffers at contents not named, the projection's weights at w, the copies' counter at zero, nothing owed. -/
def fin1 (c : Dev nD) (m1 m2 : Memref sig .tc .vmem S512x2560 .bf16) (m3 : Memref sig .tc .vmem S512x2048 .bf16) (m5 : Memref sig .tc .vmem S512x2048 .f32)
    (q k : Vec F S512x2560 .bf16) (v : Vec F S512x2048 .bf16) (wo : Vec F S2048x2048 .f32) (w : Vec F S2048x2048 .bf16) : sProp 𝕄 :=
  iprop(pt m1 c q ∗ pt m2 c k ∗ pt m3 c v ∗ ptH (Memref.whole main_arg7) c wo ∗ pt m5 c (outO q k v w)
    ∗ (∃ x, pt (Memref.whole cc1_scratch0) c x) ∗ pt (Memref.whole cc1_scratch1) c w
    ∗ (∃ x, pt (Memref.whole cc1_scratch2) c x) ∗ (∃ x, pt (Memref.whole cc1_scratch3) c x)
    ∗ semVal ((c : Thread nD τ), sW) 0 ∗ ∃ W, owes (c : Thread nD τ) 0 W)

set_option maxHeartbeats 1000000 in
theorem run1a (c : Dev nD) (W : Waits sig Unit) (i : grid1.Coords) (hi : (i 0).val = 0)
    (m1 : Memref sig .tc .vmem S512x2560 .bf16) (h1 : m1.IsWhole) (m2 : Memref sig .tc .vmem S512x2560 .bf16) (h2 : m2.IsWhole)
    (m3 : Memref sig .tc .vmem S512x2048 .bf16) (h3 : m3.IsWhole) (m5 : Memref sig .tc .vmem S512x2048 .f32) (h5 : m5.IsWhole)
    (q k : Vec F S512x2560 .bf16) (v : Vec F S512x2048 .bf16) (wo : Vec F S2048x2048 .f32) (x5 : Vec F S512x2048 .f32)
    (x6 : Vec F S512x2048 .bf16) (x7 : Vec F S2048x2048 .bf16) (x8 x9 : Vec F S512x2048 .f32) (Kt : PUnit → sProp 𝕄) :
    iprop((pt m1 c q ∗ pt m2 c k ∗ pt m3 c v ∗ ptH (Memref.whole main_arg7) c wo ∗ pt m5 c x5
        ∗ pt (Memref.whole cc1_scratch0) c x6 ∗ pt (Memref.whole cc1_scratch1) c x7 ∗ pt (Memref.whole cc1_scratch2) c x8 ∗ pt (Memref.whole cc1_scratch3) c x9
        ∗ semVal ((c : Thread nD τ), sW) 0 ∗ owes (c : Thread nD τ) 0 W)
        ∗ (fin1 c m1 m2 m3 m5 q k v wo (outW wo) -∗ Kt ⟨⟩))
      ⊢ wp frame (wpE defs₀ 𝒱₀ (c : Thread nD τ) none) Set.univ
          (cc1_body i m1 h1 m2 h2 m3 h3 (Memref.whole main_arg7) (Memref.isWhole_whole _) m5 h5 (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4) Kt := by
  iintro ⟨⟨H1, H2, H3, H4, H5, H6, H7, H8, H9, Hs, HO⟩, Hk⟩
  have hg : Scalar.cmpi .ne (Scalar.extui (Scalar.cmpi .eq (BitVec.ofNat 32 (i 0).val) 0#32) : BitVec 32) 0#32 = 1#1 := by rw [hi]; decide
  rw [cc1_body_eq_skeleton]
  unfold cc1_body_skel
  sl_exec!
  sl_step
  iapply Hk
  unfold fin1
  have eW : View.canon (run1a.sl.H7_4 wo) = outW wo := by
    delta run1a.sl.H7_4
    sl_unfold_run_values
    unfold outW
    refine congrArg View.canon ?_
    refine congr (congrArg List.cons (congrArg (Sigma.mk _) (congrArg k1_pay34 ?_))) ?_
    · exact (land3 _ _).trans (read_slice_rep (Memref.whole main_arg7).view _ wo)
    refine congr (congrArg List.cons (congrArg (Sigma.mk _) (congrArg k1_pay27 ?_))) ?_
    · exact (land2 _ _).trans (read_slice_rep (Memref.whole main_arg7).view _ wo)
    refine congr (congrArg List.cons (congrArg (Sigma.mk _) (congrArg k1_pay15 ?_))) ?_
    · exact (land3 _ _).trans (read_slice_rep (Memref.whole main_arg7).view _ wo)
    refine congr (congrArg List.cons (congrArg (Sigma.mk _) (congrArg k1_pay8 ?_))) ?_
    · exact (land2 _ _).trans (read_slice_rep (Memref.whole main_arg7).view _ wo)
    · rfl
  isplitl [H1]; · iexact H1
  isplitl [H2]; · iexact H2
  isplitl [H3]; · iexact H3
  isplitl [H4]; · iexact H4
  isplitl [H5]
  · ihave H5 := (canon_pt m5 c _) $$ H5
    delta run1a.sl.H5_1
    sl_unfold_run_values
    rw [canon_top]
    rw [show (Memref.whole cc1_scratch0).view.readCov (run1a.sl.H6_16 m1 m2 m3 q k v)
      (Rect.unit ![0, 0] S512x2048.size inb_S512x2048_S512x2048_0_0).toLoadRect = View.canon (run1a.sl.H6_16 m1 m2 m3 q k v) from readCov_all (s := S512x2048) _ _ _]
    rw [show (Memref.whole cc1_scratch1).view.readCov (run1a.sl.H7_4 wo)
      (Rect.unit ![0, 0] S2048x2048.size inb_S2048x2048_S2048x2048_0_0).toLoadRect = View.canon (run1a.sl.H7_4 wo) from readCov_all (s := S2048x2048) _ _ _]
    rw [eW]
    delta run1a.sl.H6_16
    sl_unfold_run_values
    simp only [View.readAt_rep]
    rw [outO_eq]
    unfold outH
    iexact H5
  isplitl [H6]; · iexists _; iapply (canon_pt (Memref.whole cc1_scratch0) c _) $$ H6
  isplitl [H7]
  · ihave H7 := (canon_pt (Memref.whole cc1_scratch1) c _) $$ H7
    rw [eW]
    iexact H7
  isplitl [H8]; · iexists _; iapply (canon_pt (Memref.whole cc1_scratch2) c _) $$ H8
  isplitl [H9]; · iexists _; iapply (canon_pt (Memref.whole cc1_scratch3) c _) $$ H9
  isplitl [Hs]; · iexact Hs
  iexists _; iexact HO

set_option maxHeartbeats 1000000 in
theorem run1b (c : Dev nD) (W : Waits sig Unit) (i : grid1.Coords) (hi : (i 0).val = 1)
    (m1 : Memref sig .tc .vmem S512x2560 .bf16) (h1 : m1.IsWhole) (m2 : Memref sig .tc .vmem S512x2560 .bf16) (h2 : m2.IsWhole)
    (m3 : Memref sig .tc .vmem S512x2048 .bf16) (h3 : m3.IsWhole) (m5 : Memref sig .tc .vmem S512x2048 .f32) (h5 : m5.IsWhole)
    (q k : Vec F S512x2560 .bf16) (v : Vec F S512x2048 .bf16) (wo : Vec F S2048x2048 .f32) (x5 : Vec F S512x2048 .f32)
    (x6 : Vec F S512x2048 .bf16) (x7 : Vec F S2048x2048 .bf16) (x8 x9 : Vec F S512x2048 .f32) (Kt : PUnit → sProp 𝕄) :
    iprop((pt m1 c q ∗ pt m2 c k ∗ pt m3 c v ∗ ptH (Memref.whole main_arg7) c wo ∗ pt m5 c x5
        ∗ pt (Memref.whole cc1_scratch0) c x6 ∗ pt (Memref.whole cc1_scratch1) c x7 ∗ pt (Memref.whole cc1_scratch2) c x8 ∗ pt (Memref.whole cc1_scratch3) c x9
        ∗ semVal ((c : Thread nD τ), sW) 0 ∗ owes (c : Thread nD τ) 0 W)
        ∗ (fin1 c m1 m2 m3 m5 q k v wo x7 -∗ Kt ⟨⟩))
      ⊢ wp frame (wpE defs₀ 𝒱₀ (c : Thread nD τ) none) Set.univ
          (cc1_body i m1 h1 m2 h2 m3 h3 (Memref.whole main_arg7) (Memref.isWhole_whole _) m5 h5 (Memref.whole cc1_scratch0) (Memref.isWhole_whole _)
            (Memref.whole cc1_scratch1) (Memref.isWhole_whole _) (Memref.whole cc1_scratch2) (Memref.isWhole_whole _)
            (Memref.whole cc1_scratch3) (Memref.isWhole_whole _) cc1_scratch4) Kt := by
  iintro ⟨⟨H1, H2, H3, H4, H5, H6, H7, H8, H9, Hs, HO⟩, Hk⟩
  have hg : ¬Scalar.cmpi .ne (Scalar.extui (Scalar.cmpi .eq (BitVec.ofNat 32 (i 0).val) 0#32) : BitVec 32) 0#32 = 1#1 := by rw [hi]; decide
  rw [cc1_body_eq_skeleton]
  unfold cc1_body_skel
  sl_exec!
  sl_step
  iapply Hk
  unfold fin1
  isplitl [H1]; · iexact H1
  isplitl [H2]; · iexact H2
  isplitl [H3]; · iexact H3
  isplitl [H4]; · iexact H4
  isplitl [H5]
  · ihave H5 := (canon_pt m5 c _) $$ H5
    delta run1b.sl.H5_1
    sl_unfold_run_values
    rw [canon_top]
    rw [show (Memref.whole cc1_scratch0).view.readCov (run1b.sl.H6_16 m1 m2 m3 q k v)
      (Rect.unit ![0, 0] S512x2048.size inb_S512x2048_S512x2048_0_0).toLoadRect = View.canon (run1b.sl.H6_16 m1 m2 m3 q k v) from readCov_all (s := S512x2048) _ _ _]
    rw [show View.readAt (Elt F) (Memref.whole cc1_scratch1).view
      (Rect.unit ![0, 0] S2048x2048.size inb_S2048x2048_S2048x2048_0_0).toLoadRect ((Memref.whole cc1_scratch1).view.rep x7) = x7
      from View.readAt_rep_full (s := S2048x2048) _ _ _]
    delta run1b.sl.H6_16
    sl_unfold_run_values
    simp only [↓read_slice_rep, land2, land3, View.readAt_rep]
    rw [outO_eq]
    unfold outH
    iexact H5
  isplitl [H6]; · iexists _; iapply (canon_pt (Memref.whole cc1_scratch0) c _) $$ H6
  isplitl [H7]; · iexact H7
  isplitl [H8]; · iexists _; iexact H8
  isplitl [H9]; · iexists _; iexact H9
  isplitl [Hs]; · iexact Hs
  iexists _; iexact HO

end Cert.KernelIdeal.Talk
-- ==== Proof.Dats.lean ====
/-
  What the arrays hold between the two kernels, and the two kernels' data at every grid point.
-/
module

public import proofs.«01_k».proof.Proof.Body1
public import Idealize.ShloMosaic.Lib.Pipeline.Value

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)

variable {F : FTy → Type} [FloatOps F]

local notation "𝕄" => MT nD τ sig Unit (Elt F) ℕ UU ℕ

/-! ## A memref held at a tensor -/

theorem owns_pt {s : Shape} {e : EltTy} (v : Memref sig .tc .vmem s e) (c : Dev nD) (x : s.Idx → Elt F e) :
    (owns (c : Thread nD τ) v fullShare x : sProp 𝕄) ⊢ pt v c x := by
  unfold owns
  iintro ⟨%f, %h, H⟩
  subst h
  iapply (pointsTo_rep_entails (Ix := Unit) (Name := ℕ) (U := UU) (Lvl := ℕ) (c : Thread nD τ) v f fullShare); iexact H
theorem pt_owns {s : Shape} {e : EltTy} (v : Memref sig .tc .vmem s e) (c : Dev nD) (x : s.Idx → Elt F e) :
    pt v c x ⊢ (owns (c : Thread nD τ) v fullShare x : sProp 𝕄) := by
  unfold owns
  iintro H
  iexists v.view.rep x
  isplitr; · ipureintro; exact View.read_rep ..
  iexact H
/-- A whole buffer of the core, at contents not named, is the memref over it at a tensor not named. -/
theorem buf_pt {s : Shape} {e : EltTy} (v : Memref sig .tc .vmem s e) (hv : v.view.set = Finset.univ) (c : Dev nD) :
    iprop(∃ f, v.view.loc (c : Thread nD τ) ↦{fullShare} f) ⊢ (iprop(∃ x, pt v c x) : sProp 𝕄) := by
  iintro ⟨%f, H⟩
  iexists v.view.read (Elt F) f
  iapply (pointsTo_rep_entails (Ix := Unit) (Name := ℕ) (U := UU) (Lvl := ℕ) (c : Thread nD τ) v f fullShare)
  rw [hv]; iexact H
theorem pt_buf {s : Shape} {e : EltTy} (v : Memref sig .tc .vmem s e) (hv : v.view.set = Finset.univ) (c : Dev nD) :
    (iprop(∃ x, pt v c x) : sProp 𝕄) ⊢ iprop(∃ f, v.view.loc (c : Thread nD τ) ↦{fullShare} f) := by
  unfold pt; rw [hv]
  iintro ⟨%f, H⟩
  iexists _; iexact H

/-! ## The arrays -/

variable (m : (ℓ : Loc nD τ sig) → Buf (Elt F) ℓ)

/-- The arrays of device c when the first kernel is called. -/
def W1 (c : Dev nD) : Valuation τ sig (Elt F) := V1 m c

def opX (c : Dev nD) : Vec F S1024x2048 .bf16 := W1 m c main_v2
def opDkv (c : Dev nD) : Vec F S2048x128 .f32 := W1 m c main_arg1
def opUk (c : Dev nD) : Vec F S128x2048 .f32 := W1 m c main_arg2
def opUv (c : Dev nD) : Vec F S128x2048 .f32 := W1 m c main_arg3
def opQ (c : Dev nD) : Vec F S2048x2048 .f32 := W1 m c main_arg4
def opQr (c : Dev nD) : Vec F S2048x512 .f32 := W1 m c main_arg5
def opKr (c : Dev nD) : Vec F S2048x32 .f32 := W1 m c main_arg6
def opO (c : Dev nD) : Vec F S2048x2048 .f32 := W1 m c main_arg7

/-- The three tensors every device sends. -/
def vals : Vals F := ⟨fun c => k0_pay2 (opUk m c), fun c => k0_pay3 (opUv m c), fun c => k0_pay4 (opX m c) (opDkv m c)⟩

/-- The two halves of the compressed activations, of the key up-projection, of the value up-projection. -/
def cAll (c : Dev nD) : Vec F S1024x256 .bf16 := cat2 rLeft rRight ((vals m).C c) ((vals m).C (pr c))
def ukAll (c : Dev nD) : Vec F S256x2048 .bf16 := cat2 rTop rBot ((vals m).A c) ((vals m).A (pr c))
def uvAll (c : Dev nD) : Vec F S256x2048 .bf16 := cat2 rTop rBot ((vals m).B c) ((vals m).B (pr c))

/-- The first kernel's results. -/
def qOut (c : Dev nD) : Vec F S1024x2560 .bf16 := outQ (opX m c) (opQ m c) (opQr m c)
def kOut (c : Dev nD) : Vec F S1024x2560 .bf16 := outK (opX m c) (opKr m c) (cAll m c) (ukAll m c)
def vOut (c : Dev nD) : Vec F S1024x2048 .bf16 := outV (cAll m c) (uvAll m c)

theorem opX_eq (c : Dev nD) : opX m c = W1 m c main_v2 := rfl
theorem opDkv_eq (c : Dev nD) : opDkv m c = W1 m c main_arg1 := rfl
theorem opUk_eq (c : Dev nD) : opUk m c = W1 m c main_arg2 := rfl
theorem opUv_eq (c : Dev nD) : opUv m c = W1 m c main_arg3 := rfl
theorem opQ_eq (c : Dev nD) : opQ m c = W1 m c main_arg4 := rfl
theorem opQr_eq (c : Dev nD) : opQr m c = W1 m c main_arg5 := rfl
theorem opKr_eq (c : Dev nD) : opKr m c = W1 m c main_arg6 := rfl
theorem opO_eq (c : Dev nD) : opO m c = W1 m c main_arg7 := rfl
theorem qOut_eq (c : Dev nD) : qOut m c = outQ (opX m c) (opQ m c) (opQr m c) := rfl
theorem kOut_eq (c : Dev nD) : kOut m c = outK (opX m c) (opKr m c) (cat2 rLeft rRight ((vals m).C c) ((vals m).C (pr c))) (cat2 rTop rBot ((vals m).A c) ((vals m).A (pr c))) := rfl
theorem vOut_eq (c : Dev nD) : vOut m c = outV (cat2 rLeft rRight ((vals m).C c) ((vals m).C (pr c))) (cat2 rTop rBot ((vals m).B c) ((vals m).B (pr c))) := rfl

theorem W1_eq (c : Dev nD) : W1 m c = V1 m c := rfl

attribute [irreducible] W1 opX opDkv opUk opUv opQ opQr opKr opO qOut kOut vOut

/-- The arrays of device c between the two kernels. -/
def W2 (c : Dev nD) : Valuation τ sig (Elt F) :=
  Function.update (Function.update (Function.update (W1 m c) main_v3_0 (qOut m c)) main_v3_1 (kOut m c)) main_v3_2 (vOut m c)

/-- The blocks the second kernel reads at point t. -/
def qB (c : Dev nD) (t : Fin cfg1.N) : Vec F S512x2560 .bf16 := ((cfg1.win 0).blk t).view.read (Elt F) (qOut m c)
def kB (c : Dev nD) (t : Fin cfg1.N) : Vec F S512x2560 .bf16 := ((cfg1.win 1).blk t).view.read (Elt F) (kOut m c)
def vB (c : Dev nD) (t : Fin cfg1.N) : Vec F S512x2048 .bf16 := ((cfg1.win 2).blk t).view.read (Elt F) (vOut m c)
/-- The output projection as the second kernel keeps it. -/
def woB (c : Dev nD) : Vec F S2048x2048 .bf16 := outW (opO m c)
/-- The block the second kernel writes at point t. -/
def oB (c : Dev nD) (t : Fin cfg1.N) : Vec F S512x2048 .f32 := outO (qB m c t) (kB m c t) (vB m c t) (woB m c)

theorem oB_eq (c : Dev nD) (t : Fin cfg1.N) : oB m c t = outO (qB m c t) (kB m c t) (vB m c t) (woB m c) := rfl
theorem woB_eq (c : Dev nD) : woB m c = outW (opO m c) := rfl
attribute [irreducible] oB woB

/-- The scoped buffers the first kernel does not use, at contents not named. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f)
    ∗ (∃ f : Buf (Elt F) ((c : Thread nD τ).loc cc1_scratch3), ((c : Thread nD τ).loc cc1_scratch3) ↦{fullShare} f))

/-- The first kernel's five scratch buffers, at contents not named. -/
def scr0 (c : Dev nD) : sProp 𝕄 :=
  iprop((∃ x, pt (F := F) cM c x) ∗ (∃ x, pt (F := F) aM c x) ∗ (∃ x, pt (F := F) bM c x)
    ∗ (∃ x, pt (F := F) (Memref.whole cc0_scratch3) c x) ∗ (∃ x, pt (F := F) (Memref.whole cc0_scratch4) c x))

theorem scopedRest0_in (c : Dev nD) :
    (Pipeline.scopedRest (Ix := Unit) (Name := ℕ) (U := UU) (Lvl := ℕ) (Val := Elt F) spec0 c : sProp 𝕄) ⊢ iprop(scr0 (F := F) c ∗ rest0 (F := F) c) := by
  rw [scopedRest0_eq]
  unfold scr0 rest0
  iintro ⟨H0, H1, H2, H3, H4, HR⟩
  isplitr [HR]
  · isplitl [H0]; · iapply (buf_pt (F := F) cM (View.set_whole _) c); iexact H0
    isplitl [H1]; · iapply (buf_pt (F := F) aM (View.set_whole _) c); iexact H1
    isplitl [H2]; · iapply (buf_pt (F := F) bM (View.set_whole _) c); iexact H2
    isplitl [H3]; · iapply (buf_pt (F := F) (Memref.whole cc0_scratch3) (View.set_whole _) c); iexact H3
    iapply (buf_pt (F := F) (Memref.whole cc0_scratch4) (View.set_whole _) c); iexact H4
  iexact HR
theorem scopedRest0_out (c : Dev nD) :
    iprop(scr0 (F := F) c ∗ rest0 (F := F) c) ⊢ (Pipeline.scopedRest (Ix := Unit) (Name := ℕ) (U := UU) (Lvl := ℕ) (Val := Elt F) spec0 c : sProp 𝕄) := by
  rw [scopedRest0_eq]
  unfold scr0 rest0
  iintro ⟨⟨H0, H1, H2, H3, H4⟩, HR⟩
  isplitl [H0]; · iapply (pt_buf (F := F) cM (View.set_whole _) c); iexact H0
  isplitl [H1]; · iapply (pt_buf (F := F) aM (View.set_whole _) c); iexact H1
  isplitl [H2]; · iapply (pt_buf (F := F) bM (View.set_whole _) c); iexact H2
  isplitl [H3]; · iapply (pt_buf (F := F) (Memref.whole cc0_scratch3) (View.set_whole _) c); iexact H3
  isplitl [H4]; · iapply (pt_buf (F := F) (Memref.whole cc0_scratch4) (View.set_whole _) c); iexact H4
  iexact HR

/-- The scoped buffers the second kernel does not use, at contents not named. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- The second kernel's four scratch buffers, at contents not named. -/
def scr1 (c : Dev nD) : sProp 𝕄 :=
  iprop((∃ x, pt (F := F) (Memref.whole cc1_scratch0) c x) ∗ (∃ x, pt (F := F) (Memref.whole cc1_scratch1) c x)
    ∗ (∃ x, pt (F := F) (Memref.whole cc1_scratch2) c x) ∗ (∃ x, pt (F := F) (Memref.whole cc1_scratch3) c x))
/-- The same, the second holding the output projection. -/
def scr1W (w : Vec F S2048x2048 .bf16) (c : Dev nD) : sProp 𝕄 :=
  iprop((∃ x, pt (F := F) (Memref.whole cc1_scratch0) c x) ∗ pt (F := F) (Memref.whole cc1_scratch1) c w
    ∗ (∃ x, pt (F := F) (Memref.whole cc1_scratch2) c x) ∗ (∃ x, pt (F := F) (Memref.whole cc1_scratch3) c x))

theorem scopedRest1_in (c : Dev nD) :
    (Pipeline.scopedRest (Ix := Unit) (Name := ℕ) (U := UU) (Lvl := ℕ) (Val := Elt F) spec1 c : sProp 𝕄) ⊢ iprop(scr1 (F := F) c ∗ rest1 (F := F) c) := by
  rw [scopedRest1_eq]
  unfold scr1 rest1
  iintro ⟨A0, A1, A2, A3, A4, A5, A6, A7, A8, A9, B0, B1, B2, B3, B4, H0, H1, H2, H3⟩
  isplitl [H0 H1 H2 H3]
  · isplitl [H0]; · iapply (buf_pt (F := F) (Memref.whole cc1_scratch0) (View.set_whole _) c); iexact H0
    isplitl [H1]; · iapply (buf_pt (F := F) (Memref.whole cc1_scratch1) (View.set_whole _) c); iexact H1
    isplitl [H2]; · iapply (buf_pt (F := F) (Memref.whole cc1_scratch2) (View.set_whole _) c); iexact H2
    iapply (buf_pt (F := F) (Memref.whole cc1_scratch3) (View.set_whole _) c); iexact H3
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [B0]; · iexact B0
  isplitl [B1]; · iexact B1
  isplitl [B2]; · iexact B2
  isplitl [B3]; · iexact B3
  iexact B4
theorem scopedRest1_out (w : Vec F S2048x2048 .bf16) (c : Dev nD) :
    iprop(scr1W w c ∗ rest1 (F := F) c) ⊢ (Pipeline.scopedRest (Ix := Unit) (Name := ℕ) (U := UU) (Lvl := ℕ) (Val := Elt F) spec1 c : sProp 𝕄) := by
  rw [scopedRest1_eq]
  unfold scr1W rest1
  iintro ⟨⟨H0, H1, H2, H3⟩, A0, A1, A2, A3, A4, A5, A6, A7, A8, A9, B0, B1, B2, B3, B4⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [B0]; · iexact B0
  isplitl [B1]; · iexact B1
  isplitl [B2]; · iexact B2
  isplitl [B3]; · iexact B3
  isplitl [B4]; · iexact B4
  isplitl [H0]; · iapply (pt_buf (F := F) (Memref.whole cc1_scratch0) (View.set_whole _) c); iexact H0
  isplitl [H1]; · iapply (pt_buf (F := F) (Memref.whole cc1_scratch1) (View.set_whole _) c); iexists w; iexact H1
  isplitl [H2]; · iapply (pt_buf (F := F) (Memref.whole cc1_scratch2) (View.set_whole _) c); iexact H2
  iapply (pt_buf (F := F) (Memref.whole cc1_scratch3) (View.set_whole _) c); iexact H3

/-! ## The kernels' data -/

/-- The seven counters of the exchange back at zero. -/
def zeros (c : Dev nD) : sProp 𝕄 :=
  iprop((semVal (at' c sA) 0 ∗ semVal (at' c sB) 0 ∗ semVal (at' c sC) 0 ∗ semVal (at' c rA) 0 ∗ semVal (at' c rB) 0 ∗ semVal (at' c rC) 0)
    ∗ semVal (barCell c) 0)

/-- What the first kernel starts the exchange with. -/
def enter (c : Dev nD) : sProp 𝕄 := iprop((∃ K, opened (vals m) K c) ∗ creds c ∗ levAts L lv)

def dat0 (c : Dev nD) : Dat τ (Elt F) Unit ℕ UU ℕ cfg0 c where
  A := fun
    | 0 => opX m c | 1 => opDkv m c | 2 => opUk m c | 3 => opUv m c | 4 => opQ m c | 5 => opQr m c | 6 => opKr m c
    | 7 => W1 m c main_v3_0 | 8 => W1 m c main_v3_1 | 9 => W1 m c main_v3_2
    | ⟨_ + 10, h⟩ => absurd h (Nat.not_lt.2 (Nat.le_add_left _ _))
  after := fun
    | 0 => fun _ => opX m c | 1 => fun _ => opDkv m c | 2 => fun _ => opUk m c | 3 => fun _ => opUv m c | 4 => fun _ => opQ m c
    | 5 => fun _ => opQr m c | 6 => fun _ => opKr m c
    | 7 => fun _ => qOut m c | 8 => fun _ => kOut m c | 9 => fun _ => vOut m c
    | ⟨_ + 10, h⟩ => absurd h (Nat.not_lt.2 (Nat.le_add_left _ _))
  Φ t := iprop((if t.val = 0 then enter m c else zeros c) ∗ (scr0 (F := F) c ∗ rest0 (F := F) c) ∗ ∃ r, prngReg c r)
  q _ := fullShare
  owed t := if t.val = 0 then O₀ c else 0

/-- What the second kernel finds and leaves in its scratch buffers. -/
def scrAt (n : ℕ) (c : Dev nD) : sProp 𝕄 := if n = 0 then scr1 c else scr1W (woB m c) c

def dat1 (c : Dev nD) : Dat τ (Elt F) Unit ℕ UU ℕ cfg1 c where
  A := fun
    | 0 => qOut m c | 1 => kOut m c | 2 => vOut m c | 3 => W1 m c main_v4
    | ⟨_ + 4, h⟩ => absurd h (Nat.not_lt.2 (Nat.le_add_left _ _))
  after := fun
    | 0 => fun t => qB m c t | 1 => fun t => kB m c t | 2 => fun t => vB m c t | 3 => fun t => oB m c t
    | ⟨_ + 4, h⟩ => absurd h (Nat.not_lt.2 (Nat.le_add_left _ _))
  Φ t := iprop((scrAt m t.val c ∗ rest1 (F := F) c) ∗ (∃ r, prngReg c r) ∗ ptH (Memref.whole main_arg7) c (opO m c) ∗ semVal ((c : Thread nD τ), sW) 0)
  q _ := fullShare
  owed _ := 0

/-- The second kernel's result. -/
def oArr (c : Dev nD) : Vec F S1024x2048 .f32 := (dat1 m c).arrAt 3 cfg1.N

/-- The arrays of device c after the second kernel, and at the end. -/
def W3 (c : Dev nD) : Valuation τ sig (Elt F) := Function.update (W2 m c) main_v4 (oArr m c)
def W4 (c : Dev nD) : Valuation τ sig (Elt F) := StableHlo.after hostOps2 (W3 m c)

def pdats : (p : Fin 2) → (c : Dev nD) → Dat τ (Elt F) Unit ℕ UU ℕ (Pipeline.pin (pcfgs (F := F)) adm p) c
  | 0 => dat0 m
  | 1 => dat1 m

end Cert.KernelIdeal.Talk
-- ==== Proof.Oblig.lean ====
/-
  The two kernels' bodies at every grid point, in the form the grid loop asks for.
-/
module

public import proofs.«01_k».proof.Proof.Dats

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

theorem owesAt_intro {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) (W : Waits sig Unit) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-! A whole-array block reads the array. -/

theorem before0_0 (c : Dev nD) (d) : (dat0 m c).before 0 t0_0 d = opX m c := by
  unfold Dat.before; rw [if_pos (fetch0_0 _)]
  funext y
  show opX m c (((cfg0.win 0).rect t0_0).emb y) = _
  exact congrArg (opX m c) (funext fun a => Fin.ext (Pipeline.Window.rect_emb_val_of_index_zero (cfg0.win 0) t0_0 a rfl y))
theorem before0_1 (c : Dev nD) (d) : (dat0 m c).before 1 t0_0 d = opDkv m c := by
  unfold Dat.before; rw [if_pos (fetch0_1 _)]
  funext y
  show opDkv m c (((cfg0.win 1).rect t0_0).emb y) = _
  exact congrArg (opDkv m c) (funext fun a => Fin.ext (Pipeline.Window.rect_emb_val_of_index_zero (cfg0.win 1) t0_0 a rfl y))
theorem before0_2 (c : Dev nD) (d) : (dat0 m c).before 2 t0_0 d = opUk m c := by
  unfold Dat.before; rw [if_pos (fetch0_2 _)]
  funext y
  show opUk m c (((cfg0.win 2).rect t0_0).emb y) = _
  exact congrArg (opUk m c) (funext fun a => Fin.ext (Pipeline.Window.rect_emb_val_of_index_zero (cfg0.win 2) t0_0 a rfl y))
theorem before0_3 (c : Dev nD) (d) : (dat0 m c).before 3 t0_0 d = opUv m c := by
  unfold Dat.before; rw [if_pos (fetch0_3 _)]
  funext y
  show opUv m c (((cfg0.win 3).rect t0_0).emb y) = _
  exact congrArg (opUv m c) (funext fun a => Fin.ext (Pipeline.Window.rect_emb_val_of_index_zero (cfg0.win 3) t0_0 a rfl y))
theorem before0_4 (c : Dev nD) (d) : (dat0 m c).before 4 t0_0 d = opQ m c := by
  unfold Dat.before; rw [if_pos (fetch0_4 _)]
  funext y
  show opQ m c (((cfg0.win 4).rect t0_0).emb y) = _
  exact congrArg (opQ m c) (funext fun a => Fin.ext (Pipeline.Window.rect_emb_val_of_index_zero (cfg0.win 4) t0_0 a rfl y))
theorem before0_5 (c : Dev nD) (d) : (dat0 m c).before 5 t0_0 d = opQr m c := by
  unfold Dat.before; rw [if_pos (fetch0_5 _)]
  funext y
  show opQr m c (((cfg0.win 5).rect t0_0).emb y) = _
  exact congrArg (opQr m c) (funext fun a => Fin.ext (Pipeline.Window.rect_emb_val_of_index_zero (cfg0.win 5) t0_0 a rfl y))
theorem before0_6 (c : Dev nD) (d) : (dat0 m c).before 6 t0_0 d = opKr m c := by
  unfold Dat.before; rw [if_pos (fetch0_6 _)]
  funext y
  show opKr m c (((cfg0.win 6).rect t0_0).emb y) = _
  exact congrArg (opKr m c) (funext fun a => Fin.ext (Pipeline.Window.rect_emb_val_of_index_zero (cfg0.win 6) t0_0 a rfl y))
theorem before1_0 (c : Dev nD) (t : Fin cfg1.N) (d) : (dat1 m c).before 0 t d = qB m c t := by
  unfold Dat.before; rw [if_pos (fetch1_0 _)]
  funext y
  have hm : (cfg1.win 0).moved (cfg1.grid.coords t) y = true :=
    ((cfg1.win 0).moved_iff _ y).mpr fun a => (y a).isLt
  unfold Dat.fetched Pipeline.Window.fill; rw [dif_pos hm]
  unfold Dat.blockOf qB
  rfl
theorem before1_1 (c : Dev nD) (t : Fin cfg1.N) (d) : (dat1 m c).before 1 t d = kB m c t := by
  unfold Dat.before; rw [if_pos (fetch1_1 _)]
  funext y
  have hm : (cfg1.win 1).moved (cfg1.grid.coords t) y = true :=
    ((cfg1.win 1).moved_iff _ y).mpr fun a => (y a).isLt
  unfold Dat.fetched Pipeline.Window.fill; rw [dif_pos hm]
  unfold Dat.blockOf kB
  rfl
theorem before1_2 (c : Dev nD) (t : Fin cfg1.N) (d) : (dat1 m c).before 2 t d = vB m c t := by
  unfold Dat.before; rw [if_pos (fetch1_2 _)]
  funext y
  have hm : (cfg1.win 2).moved (cfg1.grid.coords t) y = true :=
    ((cfg1.win 2).moved_iff _ y).mpr fun a => (y a).isLt
  unfold Dat.fetched Pipeline.Window.fill; rw [dif_pos hm]
  unfold Dat.blockOf vB
  rfl

set_option maxHeartbeats 2000000 in
theorem body0 (c : Dev nD) : BodyObligation (dat0 m c) defs₀ 𝒱₀ () Set.univ := fun t => by
  obtain rfl := fin_N0 t
  rw [bigSep_W0, bigSep_W0]
  rw [show (dat0 m c).Φ t0_0.castSucc = iprop(enter m c ∗ (scr0 (F := F) c ∗ rest0 (F := F) c) ∗ ∃ r, prngReg c r) from rfl,
    show (dat0 m c).Φ t0_0.succ = iprop(zeros c ∗ (scr0 (F := F) c ∗ rest0 (F := F) c) ∗ ∃ r, prngReg c r) from rfl]
  rw [show (defs₀ (F := F)) .tc cfg0.body (cfg0.bodyArgs t0_0 (cfg0.slots t0_0)) = bodyAt0 t0_0 from rfl]
  unfold enter scr0
  iintro ⟨⟨⟨⟨%K, Hg⟩, Hcr, #Hlev⟩, ⟨⟨⟨%fc, HC⟩, ⟨%fa, HA⟩, ⟨%fb, HB⟩, Hs3, Hs4⟩, HR⟩, Hreg⟩, HO,
    ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HO' := (owesAt_elim (dat0 m c) _ (O₀ c) rfl) $$ HO
  icases HO' with ⟨%W, HO⟩
  rw [before0_0, before0_1, before0_2, before0_3, before0_4, before0_5, before0_6]
  ihave HA' := (split2 aM rTop rBot (fun _ => rfl) (fun _ => rfl) c cov_rows dis_rows _) $$ HA
  icases HA' with ⟨HaO, HaL⟩
  ihave HB' := (split2 bM rTop rBot (fun _ => rfl) (fun _ => rfl) c cov_rows dis_rows _) $$ HB
  icases HB' with ⟨HbO, HbL⟩
  ihave HC' := (split2 cM rLeft rRight (fun _ => rfl) (fun _ => rfl) c cov_cols dis_cols _) $$ HC
  icases HC' with ⟨HcO, HcL⟩
  iapply (wp_fupd _ _)
  iapply (run0 (vals m) K c W (st0_0 t0_0) (hstage0_0 0) (st0_1 t0_0) (hstage0_1 0) (st0_2 t0_0) (hstage0_2 0) (st0_3 t0_0) (hstage0_3 0)
    (st0_4 t0_0) (hstage0_4 0) (st0_5 t0_0) (hstage0_5 0) (st0_6 t0_0) (hstage0_6 0) (st0_7 t0_0) (hstage0_7 0) (st0_8 t0_0) (hstage0_8 0)
    (st0_9 t0_0) (hstage0_9 0) (opX m c) (opDkv m c) (opUk m c) (opUv m c) (opQ m c) (opQr m c) (opKr m c) _ _ _ rfl rfl rfl _)
  isplitl [Hg Hcr HO HaO HaL HbO HbL HcO HcL Hs3 Hs4 H0 H1 H2 H3 H4 H5 H6 H7 H8 H9]
  · isplitl [Hg]; · iexact Hg
    isplitl [Hcr]; · iexact Hcr
    isplitr; · iexact Hlev
    isplitl [HO]; · iexact HO
    isplitl [HaO]; · iexists _; iexact HaO
    isplitl [HbO]; · iexists _; iexact HbO
    isplitl [HcO]; · iexists _; iexact HcO
    isplitl [HaL]; · iexists _; iexact HaL
    isplitl [HbL]; · iexists _; iexact HbL
    isplitl [HcL]; · iexists _; iexact HcL
    isplitl [Hs3]; · iexact Hs3
    isplitl [Hs4]; · iexact Hs4
    isplitl [H0]; · iapply (owns_pt (st0_0 t0_0) c (opX m c)); iexact H0
    isplitl [H1]; · iapply (owns_pt (st0_1 t0_0) c (opDkv m c)); iexact H1
    isplitl [H2]; · iapply (owns_pt (st0_2 t0_0) c (opUk m c)); iexact H2
    isplitl [H3]; · iapply (owns_pt (st0_3 t0_0) c (opUv m c)); iexact H3
    isplitl [H4]; · iapply (owns_pt (st0_4 t0_0) c (opQ m c)); iexact H4
    isplitl [H5]; · iapply (owns_pt (st0_5 t0_0) c (opQr m c)); iexact H5
    isplitl [H6]; · iapply (owns_pt (st0_6 t0_0) c (opKr m c)); iexact H6
    isplitl [H7]; · iapply (owns_pt (st0_7 t0_0) c _); iexact H7
    isplitl [H8]; · iapply (owns_pt (st0_8 t0_0) c _); iexact H8
    iapply (owns_pt (st0_9 t0_0) c _); iexact H9
  unfold fin0 invs zeros
  rw [← qOut_eq, ← kOut_eq, ← vOut_eq]
  iintro ⟨⟨⟨#HIb, #HIsA, #HIsB, #HIsC, #HIrA, #HIrB, #HIrC, -⟩, Hb, HsA, HsB, HsC, HrA, HrB, HrC⟩, ⟨%W', HO⟩, ⟨HA, HB, HC, Hs3, Hs4⟩,
    H0, H1, H2, H3, H4, H5, H6, H7, H8, H9⟩
  imod (close (vals m) (K (barCell c)) (barCell c)) $$ [Hb] with Hb0
  · isplitr; · iexact HIb
    iexact Hb
  imod (close (vals m) (K (at' c sA)) (at' c sA)) $$ [HsA] with HsA0
  · isplitr; · iexact HIsA
    iexact HsA
  imod (close (vals m) (K (at' c sB)) (at' c sB)) $$ [HsB] with HsB0
  · isplitr; · iexact HIsB
    iexact HsB
  imod (close (vals m) (K (at' c sC)) (at' c sC)) $$ [HsC] with HsC0
  · isplitr; · iexact HIsC
    iexact HsC
  imod (close (vals m) (K (at' c rA)) (at' c rA)) $$ [HrA] with HrA0
  · isplitr; · iexact HIrA
    iexact HrA
  imod (close (vals m) (K (at' c rB)) (at' c rB)) $$ [HrB] with HrB0
  · isplitr; · iexact HIrB
    iexact HrB
  imod (close (vals m) (K (at' c rC)) (at' c rC)) $$ [HrC] with HrC0
  · isplitr; · iexact HIrC
    iexact HrC
  imodintro
  isplitl [Hb0 HsA0 HsB0 HsC0 HrA0 HrB0 HrC0 HA HB HC Hs3 Hs4 HR Hreg]
  · isplitl [Hb0 HsA0 HsB0 HsC0 HrA0 HrB0 HrC0]
    · isplitr [Hb0]
      · isplitl [HsA0]; · iexact HsA0
        isplitl [HsB0]; · iexact HsB0
        isplitl [HsC0]; · iexact HsC0
        isplitl [HrA0]; · iexact HrA0
        isplitl [HrB0]; · iexact HrB0
        iexact HrC0
      iexact Hb0
    isplitr [Hreg]
    · isplitr [HR]
      · isplitl [HC]; · iexact HC
        isplitl [HA]; · iexact HA
        isplitl [HB]; · iexact HB
        isplitl [Hs3]; · iexact Hs3
        iexact Hs4
      iexact HR
    iexact Hreg
  isplitl [HO]; · iapply (owesAt_intro (dat0 m c) t0_0.succ 0 rfl rfl W'); iexact HO
  isplitl [H0]; · iapply (pt_owns (st0_0 t0_0) c (opX m c)); iexact H0
  isplitl [H1]; · iapply (pt_owns (st0_1 t0_0) c (opDkv m c)); iexact H1
  isplitl [H2]; · iapply (pt_owns (st0_2 t0_0) c (opUk m c)); iexact H2
  isplitl [H3]; · iapply (pt_owns (st0_3 t0_0) c (opUv m c)); iexact H3
  isplitl [H4]; · iapply (pt_owns (st0_4 t0_0) c (opQ m c)); iexact H4
  isplitl [H5]; · iapply (pt_owns (st0_5 t0_0) c (opQr m c)); iexact H5
  isplitl [H6]; · iapply (pt_owns (st0_6 t0_0) c (opKr m c)); iexact H6
  isplitl [H7]; · iapply (pt_owns (st0_7 t0_0) c (qOut m c)); iexact H7
  isplitl [H8]; · iapply (pt_owns (st0_8 t0_0) c (kOut m c)); iexact H8
  iapply (pt_owns (st0_9 t0_0) c (vOut m c)); iexact H9

theorem body1_0 (c : Dev nD) :
    iprop((dat1 m c).Φ (t1_0 : Fin cfg1.N).castSucc ∗ (dat1 m c).owesAt () (t1_0 : Fin cfg1.N).castSucc
      ∗ (∃ d, owns (c : Thread nD τ) (st1_0 t1_0) fullShare ((dat1 m c).before 0 t1_0 d))
      ∗ (∃ d, owns (c : Thread nD τ) (st1_1 t1_0) fullShare ((dat1 m c).before 1 t1_0 d))
      ∗ (∃ d, owns (c : Thread nD τ) (st1_2 t1_0) fullShare ((dat1 m c).before 2 t1_0 d))
      ∗ (∃ d, owns (c : Thread nD τ) (st1_3 t1_0) fullShare ((dat1 m c).before 3 t1_0 d)))
    ⊢ wp frame (wpE (defs₀ (F := F)) 𝒱₀ c none) Set.univ (bodyAt1 t1_0) fun _ =>
      (iprop((dat1 m c).Φ (t1_0 : Fin cfg1.N).succ ∗ (dat1 m c).owesAt () (t1_0 : Fin cfg1.N).succ
        ∗ owns (c : Thread nD τ) (st1_0 t1_0) fullShare (qB m c t1_0)
        ∗ owns (c : Thread nD τ) (st1_1 t1_0) fullShare (kB m c t1_0)
        ∗ owns (c : Thread nD τ) (st1_2 t1_0) fullShare (vB m c t1_0)
        ∗ owns (c : Thread nD τ) (st1_3 t1_0) fullShare (oB m c t1_0)) : sProp 𝕄) := by
  rw [show (dat1 m c).Φ (t1_0 : Fin cfg1.N).castSucc = iprop((scr1 (F := F) c ∗ rest1 (F := F) c) ∗ (∃ r, prngReg c r) ∗ ptH (Memref.whole main_arg7) c (opO m c) ∗ semVal ((c : Thread nD τ), sW) 0) from rfl,
    show (dat1 m c).Φ (t1_0 : Fin cfg1.N).succ = iprop((scr1W (woB m c) c ∗ rest1 (F := F) c) ∗ (∃ r, prngReg c r) ∗ ptH (Memref.whole main_arg7) c (opO m c) ∗ semVal ((c : Thread nD τ), sW) 0) from rfl]
  unfold scr1 scr1W
  iintro ⟨⟨⟨⟨⟨%x6, H6⟩, ⟨%x7, H7⟩, ⟨%x8, H8⟩, ⟨%x9, H9⟩⟩, HR⟩, Hreg, Ho, Hs⟩, HO, ⟨%d0, H0⟩, ⟨%d1, H1⟩, ⟨%d2, H2⟩, ⟨%d3, H3⟩⟩
  ihave HO' := (owesAt_elim (dat1 m c) _ 0 rfl) $$ HO
  icases HO' with ⟨%W, HO⟩
  rw [before1_0, before1_1, before1_2]
  iapply (run1a c W (grid1.coords t1_0) rfl (st1_0 t1_0) (hstage1_0 ((cfg1.slots t1_0 0).cast nbuf1_0)) (st1_1 t1_0) (hstage1_1 ((cfg1.slots t1_0 1).cast nbuf1_1))
    (st1_2 t1_0) (hstage1_2 ((cfg1.slots t1_0 2).cast nbuf1_2)) (st1_3 t1_0) (hstage1_3 ((cfg1.slots t1_0 3).cast nbuf1_3))
    (qB m c t1_0) (kB m c t1_0) (vB m c t1_0) (opO m c) _ x6 x7 x8 x9 _)
  isplitl [H0 H1 H2 H3 Ho H6 H7 H8 H9 Hs HO]
  · isplitl [H0]; · iapply (owns_pt (st1_0 t1_0) c (qB m c t1_0)); iexact H0
    isplitl [H1]; · iapply (owns_pt (st1_1 t1_0) c (kB m c t1_0)); iexact H1
    isplitl [H2]; · iapply (owns_pt (st1_2 t1_0) c (vB m c t1_0)); iexact H2
    isplitl [Ho]; · iexact Ho
    isplitl [H3]; · iapply (owns_pt (st1_3 t1_0) c _); iexact H3
    isplitl [H6]; · iexact H6
    isplitl [H7]; · iexact H7
    isplitl [H8]; · iexact H8
    isplitl [H9]; · iexact H9
    isplitl [Hs]; · iexact Hs
    iexact HO
  unfold fin1
  rw [← woB_eq]
  rw [← oB_eq]
  iintro ⟨H0, H1, H2, Ho, H3, H6, H7, H8, H9, Hs, ⟨%W', HO⟩⟩
  isplitl [H6 H7 H8 H9 HR Hreg Ho Hs]
  · isplitl [H6 H7 H8 H9 HR]
    · isplitl [H6 H7 H8 H9]
      · isplitl [H6]; · iexact H6
        isplitl [H7]; · iexact H7
        isplitl [H8]; · iexact H8
        iexact H9
      iexact HR
    isplitl [Hreg]; · iexact Hreg
    isplitl [Ho]; · iexact Ho
    iexact Hs
  isplitl [HO]; · iapply (owesAt_intro (dat1 m c) (t1_0 : Fin cfg1.N).succ 0 rfl rfl W'); iexact HO
  isplitl [H0]; · iapply (pt_owns (st1_0 t1_0) c (qB m c t1_0)); iexact H0
  isplitl [H1]; · iapply (pt_owns (st1_1 t1_0) c (kB m c t1_0)); iexact H1
  isplitl [H2]; · iapply (pt_owns (st1_2 t1_0) c (vB m c t1_0)); iexact H2
  iapply (pt_owns (st1_3 t1_0) c (oB m c t1_0)); iexact H3

theorem body1_1 (c : Dev nD) :
    iprop((dat1 m c).Φ (t1_1 : Fin cfg1.N).castSucc ∗ (dat1 m c).owesAt () (t1_1 : Fin cfg1.N).castSucc
      ∗ (∃ d, owns (c : Thread nD τ) (st1_0 t1_1) fullShare ((dat1 m c).before 0 t1_1 d))
      ∗ (∃ d, owns (c : Thread nD τ) (st1_1 t1_1) fullShare ((dat1 m c).before 1 t1_1 d))
      ∗ (∃ d, owns (c : Thread nD τ) (st1_2 t1_1) fullShare ((dat1 m c).before 2 t1_1 d))
      ∗ (∃ d, owns (c : Thread nD τ) (st1_3 t1_1) fullShare ((dat1 m c).before 3 t1_1 d)))
    ⊢ wp frame (wpE (defs₀ (F := F)) 𝒱₀ c none) Set.univ (bodyAt1 t1_1) fun _ =>
      (iprop((dat1 m c).Φ (t1_1 : Fin cfg1.N).succ ∗ (dat1 m c).owesAt () (t1_1 : Fin cfg1.N).succ
        ∗ owns (c : Thread nD τ) (st1_0 t1_1) fullShare (qB m c t1_1)
        ∗ owns (c : Thread nD τ) (st1_1 t1_1) fullShare (kB m c t1_1)
        ∗ owns (c : Thread nD τ) (st1_2 t1_1) fullShare (vB m c t1_1)
        ∗ owns (c : Thread nD τ) (st1_3 t1_1) fullShare (oB m c t1_1)) : sProp 𝕄) := by
  rw [show (dat1 m c).Φ (t1_1 : Fin cfg1.N).castSucc = iprop((scr1W (woB m c) c ∗ rest1 (F := F) c) ∗ (∃ r, prngReg c r) ∗ ptH (Memref.whole main_arg7) c (opO m c) ∗ semVal ((c : Thread nD τ), sW) 0) from rfl,
    show (dat1 m c).Φ (t1_1 : Fin cfg1.N).succ = iprop((scr1W (woB m c) c ∗ rest1 (F := F) c) ∗ (∃ r, prngReg c r) ∗ ptH (Memref.whole main_arg7) c (opO m c) ∗ semVal ((c : Thread nD τ), sW) 0) from rfl]
  unfold scr1W
  iintro ⟨⟨⟨⟨⟨%x6, H6⟩, H7, ⟨%x8, H8⟩, ⟨%x9, H9⟩⟩, HR⟩, Hreg, Ho, Hs⟩, HO, ⟨%d0, H0⟩, ⟨%d1, H1⟩, ⟨%d2, H2⟩, ⟨%d3, H3⟩⟩
  ihave HO' := (owesAt_elim (dat1 m c) _ 0 rfl) $$ HO
  icases HO' with ⟨%W, HO⟩
  rw [before1_0, before1_1, before1_2]
  iapply (run1b c W (grid1.coords t1_1) rfl (st1_0 t1_1) (hstage1_0 ((cfg1.slots t1_1 0).cast nbuf1_0)) (st1_1 t1_1) (hstage1_1 ((cfg1.slots t1_1 1).cast nbuf1_1))
    (st1_2 t1_1) (hstage1_2 ((cfg1.slots t1_1 2).cast nbuf1_2)) (st1_3 t1_1) (hstage1_3 ((cfg1.slots t1_1 3).cast nbuf1_3))
    (qB m c t1_1) (kB m c t1_1) (vB m c t1_1) (opO m c) _ x6 (woB m c) x8 x9 _)
  isplitl [H0 H1 H2 H3 Ho H6 H7 H8 H9 Hs HO]
  · isplitl [H0]; · iapply (owns_pt (st1_0 t1_1) c (qB m c t1_1)); iexact H0
    isplitl [H1]; · iapply (owns_pt (st1_1 t1_1) c (kB m c t1_1)); iexact H1
    isplitl [H2]; · iapply (owns_pt (st1_2 t1_1) c (vB m c t1_1)); iexact H2
    isplitl [Ho]; · iexact Ho
    isplitl [H3]; · iapply (owns_pt (st1_3 t1_1) c _); iexact H3
    isplitl [H6]; · iexact H6
    isplitl [H7]; · iexact H7
    isplitl [H8]; · iexact H8
    isplitl [H9]; · iexact H9
    isplitl [Hs]; · iexact Hs
    iexact HO
  unfold fin1
  skip
  rw [← oB_eq]
  iintro ⟨H0, H1, H2, Ho, H3, H6, H7, H8, H9, Hs, ⟨%W', HO⟩⟩
  isplitl [H6 H7 H8 H9 HR Hreg Ho Hs]
  · isplitl [H6 H7 H8 H9 HR]
    · isplitl [H6 H7 H8 H9]
      · isplitl [H6]; · iexact H6
        isplitl [H7]; · iexact H7
        isplitl [H8]; · iexact H8
        iexact H9
      iexact HR
    isplitl [Hreg]; · iexact Hreg
    isplitl [Ho]; · iexact Ho
    iexact Hs
  isplitl [HO]; · iapply (owesAt_intro (dat1 m c) (t1_1 : Fin cfg1.N).succ 0 rfl rfl W'); iexact HO
  isplitl [H0]; · iapply (pt_owns (st1_0 t1_1) c (qB m c t1_1)); iexact H0
  isplitl [H1]; · iapply (pt_owns (st1_1 t1_1) c (kB m c t1_1)); iexact H1
  isplitl [H2]; · iapply (pt_owns (st1_2 t1_1) c (vB m c t1_1)); iexact H2
  iapply (pt_owns (st1_3 t1_1) c (oB m c t1_1)); iexact H3

theorem body1 (c : Dev nD) : BodyObligation (dat1 m c) defs₀ 𝒱₀ () Set.univ := fun t => by
  rw [bigSep_W1, bigSep_W1]
  rcases fin_N1 t with rfl | rfl
  · exact body1_0 m c
  · exact body1_1 m c

end Cert.KernelIdeal.Talk
-- ==== Proof.Segs.lean ====
/-
  The two kernel calls as segments of the program, each entered and left with the arrays at named contents.
-/
module

public import proofs.«01_k».proof.Proof.Oblig

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What the valuations hold at a buffer -/

theorem W2_of (c : Dev nD) (r : Ref sig .tc) (h : r ∉ ([main_v3_0, main_v3_1, main_v3_2] : List (Ref sig .tc))) : W2 m c r = W1 m c r := by
  simp only [List.mem_cons, List.not_mem_nil, or_false, not_or] at h
  unfold W2
  rw [Function.update_of_ne (StableHlo.devRef_ne_of_ne h.2.2), Function.update_of_ne (StableHlo.devRef_ne_of_ne h.2.1), Function.update_of_ne (StableHlo.devRef_ne_of_ne h.1)]
theorem W2_q (c : Dev nD) : W2 m c main_v3_0 = qOut m c := by
  unfold W2
  rw [Function.update_of_ne (StableHlo.devRef_ne_of_ne (by decide)), Function.update_of_ne (StableHlo.devRef_ne_of_ne (by decide)), Function.update_self]
theorem W2_k (c : Dev nD) : W2 m c main_v3_1 = kOut m c := by
  unfold W2
  rw [Function.update_of_ne (StableHlo.devRef_ne_of_ne (by decide)), Function.update_self]
theorem W2_v (c : Dev nD) : W2 m c main_v3_2 = vOut m c := by
  unfold W2
  rw [Function.update_self]
theorem W3_of (c : Dev nD) (r : Ref sig .tc) (h : r ≠ main_v4) : W3 m c r = W2 m c r := by
  unfold W3
  rw [Function.update_of_ne (StableHlo.devRef_ne_of_ne h)]
theorem W3_o (c : Dev nD) : W3 m c main_v4 = oArr m c := by
  unfold W3
  rw [Function.update_self]

/-! ## The first kernel's results, whole -/

theorem emb0_7 (y) : (((cfg0.win 7).blk t0_0).view.emb y : (cfg0.win 7).shape.Idx) = y :=
  funext fun a => Fin.ext (Pipeline.Window.rect_emb_val_of_index_zero (cfg0.win 7) t0_0 a rfl y)
theorem arr0_7 (c : Dev nD) : (dat0 m c).arrAt 7 cfg0.N = qOut m c :=
  (dat0 m c).arrAt_eq_of_cover 7 (qOut m c)
    (fun t _ => by
      obtain rfl := fin_N0 t
      funext y
      exact (congrArg (qOut m c) (emb0_7 y)).symm)
    (fun i => ⟨t0_0, flush0_7 _, Finset.mem_map.mpr ⟨i, Finset.mem_univ _, emb0_7 i⟩⟩)
theorem emb0_8 (y) : (((cfg0.win 8).blk t0_0).view.emb y : (cfg0.win 8).shape.Idx) = y :=
  funext fun a => Fin.ext (Pipeline.Window.rect_emb_val_of_index_zero (cfg0.win 8) t0_0 a rfl y)
theorem arr0_8 (c : Dev nD) : (dat0 m c).arrAt 8 cfg0.N = kOut m c :=
  (dat0 m c).arrAt_eq_of_cover 8 (kOut m c)
    (fun t _ => by
      obtain rfl := fin_N0 t
      funext y
      exact (congrArg (kOut m c) (emb0_8 y)).symm)
    (fun i => ⟨t0_0, flush0_8 _, Finset.mem_map.mpr ⟨i, Finset.mem_univ _, emb0_8 i⟩⟩)
theorem emb0_9 (y) : (((cfg0.win 9).blk t0_0).view.emb y : (cfg0.win 9).shape.Idx) = y :=
  funext fun a => Fin.ext (Pipeline.Window.rect_emb_val_of_index_zero (cfg0.win 9) t0_0 a rfl y)
theorem arr0_9 (c : Dev nD) : (dat0 m c).arrAt 9 cfg0.N = vOut m c :=
  (dat0 m c).arrAt_eq_of_cover 9 (vOut m c)
    (fun t _ => by
      obtain rfl := fin_N0 t
      funext y
      exact (congrArg (vOut m c) (emb0_9 y)).symm)
    (fun i => ⟨t0_0, flush0_9 _, Finset.mem_map.mpr ⟨i, Finset.mem_univ _, emb0_9 i⟩⟩)

/-! ## The kernels' own counters -/

theorem ownSems0_eq (c : Dev nD) : (Pipeline.ownSems0 (nD := nD) (τ := τ) osem0 c : sProp 𝕄)
    = iprop(semVal (at' c sA) 0 ∗ semVal (at' c sB) 0 ∗ semVal (at' c sC) 0 ∗ semVal (at' c rA) 0 ∗ semVal (at' c rB) 0 ∗ semVal (at' c rC) 0) :=
  bigSep_univ_eq_bigSepL [(0 : Fin 6), 1, 2, 3, 4, 5] (by decide) (by decide) _

/-- The second kernel's one scoped semaphore. -/
abbrev osem1 : Fin 1 → SemLoc sig := fun _ => sW

theorem ownSems1_eq (c : Dev nD) : (Pipeline.ownSems0 (nD := nD) (τ := τ) osem1 c : sProp 𝕄) = semVal ((c : Thread nD τ), sW) 0 :=
  bigSep_univ_eq_bigSepL [(0 : Fin 1)] (by decide) (by decide) _

theorem own0 : Pipeline.OwnSemFacts spec0 osem0 := by decide
theorem own1 : Pipeline.OwnSemFacts spec1 osem1 := by decide

/-! ## The exchange's cells opened -/

theorem open0 (c : Dev nD) :
    iprop(start (vals m) c ∗ Pipeline.ownSems0 (nD := nD) (τ := τ) osem0 c ∗ levAts L lv) ⊢ (|={Set.univ}=> enter m c : sProp 𝕄) := by
  rw [ownSems0_eq]
  unfold start enter ghost opened invs
  iintro ⟨⟨⟨%K, ⟨#HIb, #HIsA, #HIsB, #HIsC, #HIrA, #HIrB, #HIrC, #HIbP, #HIrAP, #HIrBP, #HIrCP⟩, Hatb, ⟨OsA, OsB, OsC, OrA, OrB, OrC⟩, #HrbP, Ht⟩, Hcr⟩,
    ⟨SsA, SsB, SsC, SrA, SrB, SrC⟩, #Hlev⟩
  imod (Rounds.cell_open ER (rd (vals m)) (g := at' c sA) (Set.mem_univ (K (at' c sA)))) $$ [OsA SsA] with ⟨HatsA, #HrsA⟩
  · isplitr; · iexact HIsA
    isplitl [OsA] <;> iassumption
  imod (Rounds.cell_open ER (rd (vals m)) (g := at' c sB) (Set.mem_univ (K (at' c sB)))) $$ [OsB SsB] with ⟨HatsB, #HrsB⟩
  · isplitr; · iexact HIsB
    isplitl [OsB] <;> iassumption
  imod (Rounds.cell_open ER (rd (vals m)) (g := at' c sC) (Set.mem_univ (K (at' c sC)))) $$ [OsC SsC] with ⟨HatsC, #HrsC⟩
  · isplitr; · iexact HIsC
    isplitl [OsC] <;> iassumption
  imod (Rounds.cell_open ER (rd (vals m)) (g := at' c rA) (Set.mem_univ (K (at' c rA)))) $$ [OrA SrA] with ⟨HatrA, #HrrA⟩
  · isplitr; · iexact HIrA
    isplitl [OrA] <;> iassumption
  imod (Rounds.cell_open ER (rd (vals m)) (g := at' c rB) (Set.mem_univ (K (at' c rB)))) $$ [OrB SrB] with ⟨HatrB, #HrrB⟩
  · isplitr; · iexact HIrB
    isplitl [OrB] <;> iassumption
  imod (Rounds.cell_open ER (rd (vals m)) (g := at' c rC) (Set.mem_univ (K (at' c rC)))) $$ [OrC SrC] with ⟨HatrC, #HrrC⟩
  · isplitr; · iexact HIrC
    isplitl [OrC] <;> iassumption
  imodintro
  isplitr [Hcr]
  · iexists K
    isplitr
    · isplitr; · iexact HIb
      isplitr; · iexact HIsA
      isplitr; · iexact HIsB
      isplitr; · iexact HIsC
      isplitr; · iexact HIrA
      isplitr; · iexact HIrB
      isplitr; · iexact HIrC
      isplitr; · iexact HIbP
      isplitr; · iexact HIrAP
      isplitr; · iexact HIrBP
      iexact HIrCP
    isplitl [Hatb HatsA HatsB HatsC HatrA HatrB HatrC]
    · isplitl [Hatb]; · iexact Hatb
      isplitl [HatsA]; · iexact HatsA
      isplitl [HatsB]; · iexact HatsB
      isplitl [HatsC]; · iexact HatsC
      isplitl [HatrA]; · iexact HatrA
      isplitl [HatrB]; · iexact HatrB
      iexact HatrC
    isplitr
    · isplitr; · iexact HrbP
      isplitr; · iexact HrsA
      isplitr; · iexact HrsB
      isplitr; · iexact HrsC
      isplitr; · iexact HrrA
      isplitr; · iexact HrrB
      iexact HrrC
    iexact Ht
  isplitl [Hcr]; · iexact Hcr
  iexact Hlev

/-! ## Levels -/

/-- A cell at which O₀ is positive is one of the partner's receive cells or its barrier cell. -/
theorem O₀_pos (c : Dev nD) (g : GSem nD τ sig) (u : Unit) (h : 0 < O₀ c g u) :
    g = at' (pr c) rA ∨ g = at' (pr c) rB ∨ g = at' (pr c) rC ∨ g = barCell (pr c) := by
  unfold O₀ at h
  rw [Pi.add_apply, Finsupp.add_apply] at h
  rcases Nat.add_pos_iff_pos_or_pos.mp h with h | h
  · rcases O₁_pos c g u h with h | h | h
    · exact .inl h
    · exact .inr (.inl h)
    · exact .inr (.inr (.inl h))
  · rw [tallyAt_apply] at h
    split at h
    · next hg => exact .inr (.inr (.inr hg.1))
    · exact absurd h (Nat.lt_irrefl 0)

theorem cut0 (c : Dev nD) (t : Fin (cfg0.N + 1)) (g : GSem nD τ sig) (i : Unit) (h : 0 < (dat0 m c).owed t g i) : i ∈ L g ∧ (0 : ℕ) < lv g i := by
  rw [show (dat0 m c).owed t = if t.val = 0 then O₀ c else 0 from rfl] at h
  split at h
  · rcases O₀_pos c g i h with h | h | h | h
    · rw [h]; exact ⟨by rw [L_tc]; exact Finset.mem_singleton_self _, by dsimp only [lv]; rw [if_neg (by decide), if_pos (by decide)]; decide⟩
    · rw [h]; exact ⟨by rw [L_tc]; exact Finset.mem_singleton_self _, by dsimp only [lv]; rw [if_neg (by decide), if_pos (by decide)]; decide⟩
    · rw [h]; exact ⟨by rw [L_tc]; exact Finset.mem_singleton_self _, by dsimp only [lv]; rw [if_neg (by decide), if_pos (by decide)]; decide⟩
    · rw [h]; exact ⟨by rw [L_tc]; exact Finset.mem_singleton_self _, by dsimp only [lv]; rw [if_pos rfl]; decide⟩
  · exact absurd h (Nat.lt_irrefl 0)

/-! ## The output projection, left in the large memory -/

theorem held_wo (c : Dev nD) (V : Valuation τ sig (Elt F)) (x : Vec F S2048x2048 .f32) (h : V main_arg7 = x) :
    (StableHlo.held (c.tc : Thread nD τ) {(Proc.devRef .tc main_arg7 : DevRef τ sig)} V : sProp 𝕄) = ptH (Memref.whole main_arg7) c x := by
  unfold StableHlo.held
  rw [bigSep_singleton]
  have e : (Memref.whole main_arg7 : Memref sig .tc .hbm S2048x2048 .f32).view.rep (Val := Elt F) x = x :=
    (View.read_whole (Val := Elt F) main_arg7 _).symm.trans (View.read_rep (Memref.whole main_arg7 : Memref sig .tc .hbm S2048x2048 .f32).view x)
  unfold ptH
  rw [e, View.set_whole, h]

/-! ## The arrays at the two ends of each kernel -/

theorem hW0 (c : Dev nD) : ∀ w : Fin 10, (dat0 m c).arrAt w 0 = W1 m c (Proc.devRef .tc (Pipeline.arrRef spec0 w))
  | 0 => opX_eq m c
  | 1 => opDkv_eq m c
  | 2 => opUk_eq m c
  | 3 => opUv_eq m c
  | 4 => opQ_eq m c
  | 5 => opQr_eq m c
  | 6 => opKr_eq m c
  | 7 => rfl
  | 8 => rfl
  | 9 => rfl
  | ⟨_ + 10, h⟩ => absurd h (Nat.not_lt.2 (Nat.le_add_left _ _))
theorem hW0' (c : Dev nD) : ∀ w : Fin 10, (dat0 m c).arrAt w cfg0.N = W2 m c (Proc.devRef .tc (Pipeline.arrRef spec0 w))
  | 0 => ((dat0 m c).arrAt_in 0 rfl cfg0.N).trans ((opX_eq m c).trans (W2_of m c main_v2 (by decide)).symm)
  | 1 => ((dat0 m c).arrAt_in 1 rfl cfg0.N).trans ((opDkv_eq m c).trans (W2_of m c main_arg1 (by decide)).symm)
  | 2 => ((dat0 m c).arrAt_in 2 rfl cfg0.N).trans ((opUk_eq m c).trans (W2_of m c main_arg2 (by decide)).symm)
  | 3 => ((dat0 m c).arrAt_in 3 rfl cfg0.N).trans ((opUv_eq m c).trans (W2_of m c main_arg3 (by decide)).symm)
  | 4 => ((dat0 m c).arrAt_in 4 rfl cfg0.N).trans ((opQ_eq m c).trans (W2_of m c main_arg4 (by decide)).symm)
  | 5 => ((dat0 m c).arrAt_in 5 rfl cfg0.N).trans ((opQr_eq m c).trans (W2_of m c main_arg5 (by decide)).symm)
  | 6 => ((dat0 m c).arrAt_in 6 rfl cfg0.N).trans ((opKr_eq m c).trans (W2_of m c main_arg6 (by decide)).symm)
  | 7 => (arr0_7 m c).trans (W2_q m c).symm
  | 8 => (arr0_8 m c).trans (W2_k m c).symm
  | 9 => (arr0_9 m c).trans (W2_v m c).symm
  | ⟨_ + 10, h⟩ => absurd h (Nat.not_lt.2 (Nat.le_add_left _ _))
theorem hW1 (c : Dev nD) : ∀ w : Fin 4, (dat1 m c).arrAt w 0 = W2 m c (Proc.devRef .tc (Pipeline.arrRef spec1 w))
  | 0 => (W2_q m c).symm
  | 1 => (W2_k m c).symm
  | 2 => (W2_v m c).symm
  | 3 => (W2_of m c main_v4 (by decide)).symm
  | ⟨_ + 4, h⟩ => absurd h (Nat.not_lt.2 (Nat.le_add_left _ _))
theorem hW1' (c : Dev nD) : ∀ w : Fin 4, (dat1 m c).arrAt w cfg1.N = W3 m c (Proc.devRef .tc (Pipeline.arrRef spec1 w))
  | 0 => ((dat1 m c).arrAt_in 0 rfl cfg1.N).trans ((W2_q m c).symm.trans (W3_of m c main_v3_0 (by decide)).symm)
  | 1 => ((dat1 m c).arrAt_in 1 rfl cfg1.N).trans ((W2_k m c).symm.trans (W3_of m c main_v3_1 (by decide)).symm)
  | 2 => ((dat1 m c).arrAt_in 2 rfl cfg1.N).trans ((W2_v m c).symm.trans (W3_of m c main_v3_2 (by decide)).symm)
  | 3 => (W3_o m c).symm
  | ⟨_ + 4, h⟩ => absurd h (Nat.not_lt.2 (Nat.le_add_left _ _))

/-- The arrays that no window of the kernel stages. -/
def Sr0 : Finset (DevRef τ sig) := Pipeline.ucRefs τ sig \ Pipeline.arrRefs spec0
def Sr1 : Finset (DevRef τ sig) := Pipeline.ucRefs τ sig \ Pipeline.arrRefs spec1

theorem arr_mem {gr W : ℕ} (win : Fin W → Pipeline.WinSpec sig gr) (w : Fin W) : (Proc.devRef .tc (Pipeline.arrRef win w) : DevRef τ sig) ∈ Pipeline.arrRefs win :=
  Finset.mem_map.mpr ⟨_, Finset.mem_image.mpr ⟨w, Finset.mem_univ _, rfl⟩, rfl⟩

theorem rest_same0 (c : Dev nD) (b : DevRef τ sig) (h : b ∈ Sr0 \ ∅) : W2 m c b = W1 m c b := by
  have hb : b ∉ Pipeline.arrRefs spec0 := (Finset.mem_sdiff.mp (Finset.mem_sdiff.mp h).1).2
  unfold W2
  rw [Function.update_of_ne (fun e => hb (by rw [e]; exact arr_mem spec0 9)), Function.update_of_ne (fun e => hb (by rw [e]; exact arr_mem spec0 8)),
    Function.update_of_ne (fun e => hb (by rw [e]; exact arr_mem spec0 7))]
theorem rest_same1 (c : Dev nD) (b : DevRef τ sig) (h : b ∈ Sr1 \ {(Proc.devRef .tc main_arg7 : DevRef τ sig)}) : W3 m c b = W2 m c b := by
  have hb : b ∉ Pipeline.arrRefs spec1 := (Finset.mem_sdiff.mp (Finset.mem_sdiff.mp h).1).2
  unfold W3
  rw [Function.update_of_ne (fun e => hb (by rw [e]; exact arr_mem spec1 3))]

theorem wo_sub : ({(Proc.devRef .tc main_arg7 : DevRef τ sig)} : Finset (DevRef τ sig)) ⊆ Sr1 := by
  rw [Finset.singleton_subset_iff]
  exact Finset.mem_sdiff.mpr ⟨Finset.mem_filter.mpr ⟨StableHlo.devRef_mem_tcRefs main_arg7, by decide⟩, fun h => by
    obtain ⟨b, hb, e⟩ := Finset.mem_map.mp h
    obtain ⟨w, -, hw⟩ := Finset.mem_image.mp hb
    have e' : b = main_arg7 := Proc.devRef_injective _ e
    exact (by decide : ∀ w : Fin 4, Pipeline.arrRef spec1 w ≠ main_arg7) w (hw.trans e')⟩

/-- The staging buffers' semaphores sit at level 0. -/
theorem stage_low0 : ∀ (w : Fin 10) (s : Fin (spec0 w).nbuf), (SemLoc.dma ((spec0 w).sem s) : SemLoc sig) ≠ .reg barS
    ∧ ¬((SemLoc.dma ((spec0 w).sem s) : SemLoc sig) = rA ∨ (SemLoc.dma ((spec0 w).sem s) : SemLoc sig) = rB ∨ (SemLoc.dma ((spec0 w).sem s) : SemLoc sig) = rC) := by decide
theorem stage_low1 : ∀ (w : Fin 4) (s : Fin (spec1 w).nbuf), (SemLoc.dma ((spec1 w).sem s) : SemLoc sig) ≠ .reg barS
    ∧ ¬((SemLoc.dma ((spec1 w).sem s) : SemLoc sig) = rA ∨ (SemLoc.dma ((spec1 w).sem s) : SemLoc sig) = rB ∨ (SemLoc.dma ((spec1 w).sem s) : SemLoc sig) = rC) := by decide
theorem low {c : Dev nD} {sm : SemLoc sig} (h : sm ≠ .reg barS ∧ ¬(sm = rA ∨ sm = rB ∨ sm = rC)) : lv ((c : Thread nD τ), sm) () ≤ 0 := by
  dsimp only [lv]; rw [if_neg h.1, if_neg h.2]

/-! ## The two records -/

theorem in0 (c : Dev nD) : iprop(Pipeline.scopedRest (Pipeline.pin (pcfgs (F := F)) adm 0).spec c ∗ (∃ r, prngReg c r) ∗ StableHlo.held (c.tc : Thread nD τ) ∅ (W1 m c) ∗ enter m c)
    ⊢ (pdats m 0 c).Φ 0 := by
  rw [show (pdats m 0 c).Φ 0 = iprop(enter m c ∗ (scr0 (F := F) c ∗ rest0 (F := F) c) ∗ ∃ r, prngReg c r) from rfl]
  iintro ⟨Hs, Hp, -, He⟩
  isplitl [He]; · iexact He
  isplitl [Hs]; · iapply (scopedRest0_in (F := F) c); iexact Hs
  iexact Hp
theorem out0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W2 m c) ∗ Pipeline.ownSems0 osem0 c ∗ semVal (barCell c) 0) := by
  rw [show (pdats m 0 c).Φ (Fin.last (Pipeline.pin (pcfgs (F := F)) adm 0).N) = iprop(zeros c ∗ (scr0 (F := F) c ∗ rest0 (F := F) c) ∗ ∃ r, prngReg c r) from rfl, ownSems0_eq]
  unfold zeros
  iintro ⟨⟨Hz, Hb⟩, Hs, Hp⟩
  isplitl [Hs]; · iapply (scopedRest0_out (F := F) c); iexact Hs
  isplitl [Hp]; · iexact Hp
  isplitr; · unfold StableHlo.held; rw [bigSep_empty]; iempintro
  isplitl [Hz]; · iexact Hz
  iexact Hb

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 own0
    ∅ Sr0 (Finset.empty_subset _) launch0.toP rfl (fun c => (body0 m c).loose)
    (fun _ => 0) O₀ (fun c => (zero_add (O₀ c)).symm) (fun _ => rfl) (fun _ => rfl) (fun _ w => by show (if _ then _ else _) = _; split <;> rfl)
    (W1 m) (W2 m) (rest_same0 m)
    (start (vals m)) (fun c => semVal (barCell c) 0) (enter m) (fun c => semVal (barCell c) 0) (open0 m) (in0 m) (out0 m)
    (fun c => by iintro H; imodintro; iexact H)
    (fun _ => 0)
    ⟨fun c w s => by rw [L_tc]; exact Finset.mem_singleton_self _, fun c w s => low (stage_low0 w s), fun c t g i h => cut0 m c t g i h⟩
    (fun _ => iprop(emp))
    (hW0 m) (hW0' m)

theorem in1 (c : Dev nD) : iprop(Pipeline.scopedRest (Pipeline.pin (pcfgs (F := F)) adm 1).spec c ∗ (∃ r, prngReg c r) ∗ StableHlo.held (c.tc : Thread nD τ) {(Proc.devRef .tc main_arg7 : DevRef τ sig)} (W2 m c) ∗ semVal ((c : Thread nD τ), sW) 0)
    ⊢ (pdats m 1 c).Φ 0 := by
  rw [show (pdats m 1 c).Φ 0 = iprop((scr1 (F := F) c ∗ rest1 (F := F) c) ∗ (∃ r, prngReg c r) ∗ ptH (Memref.whole main_arg7) c (opO m c) ∗ semVal ((c : Thread nD τ), sW) 0) from rfl,
    held_wo c (W2 m c) (opO m c) ((W2_of m c main_arg7 (by decide)).trans (opO_eq m c).symm)]
  iintro ⟨Hs, Hp, Hh, Hw⟩
  isplitl [Hs]; · iapply (scopedRest1_in (F := F) c); iexact Hs
  isplitl [Hp]; · iexact Hp
  isplitl [Hh]; · iexact Hh
  iexact Hw
theorem out1 (c : Dev nD) : (pdats m 1 c).Φ (Fin.last (Pipeline.pin (pcfgs (F := F)) adm 1).N)
    ⊢ iprop(Pipeline.scopedRest (Pipeline.pin (pcfgs (F := F)) adm 1).spec c ∗ (∃ r, prngReg c r) ∗ StableHlo.held (c.tc : Thread nD τ) {(Proc.devRef .tc main_arg7 : DevRef τ sig)} (W3 m c) ∗ Pipeline.ownSems0 osem1 c ∗ emp) := by
  rw [show (pdats m 1 c).Φ (Fin.last (Pipeline.pin (pcfgs (F := F)) adm 1).N) = iprop((scr1W (woB m c) c ∗ rest1 (F := F) c) ∗ (∃ r, prngReg c r) ∗ ptH (Memref.whole main_arg7) c (opO m c) ∗ semVal ((c : Thread nD τ), sW) 0) from rfl,
    held_wo c (W3 m c) (opO m c) ((W3_of m c main_arg7 (by decide)).trans ((W2_of m c main_arg7 (by decide)).trans (opO_eq m c).symm)), ownSems1_eq]
  iintro ⟨Hs, Hp, Hh, Hw⟩
  isplitl [Hs]; · iapply (scopedRest1_out (woB m c) c); iexact Hs
  isplitl [Hp]; · iexact Hp
  isplitl [Hh]; · iexact Hh
  isplitl [Hw]; · iexact Hw
  iempintro

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem1 own1
    {(Proc.devRef .tc main_arg7 : DevRef τ sig)} Sr1 wo_sub launch1.toP rfl (fun c => (body1 m c).loose)
    (fun _ => 0) (fun _ => 0) (fun _ => (zero_add _).symm) (fun _ => rfl) (fun _ => rfl) (fun _ w => by show (if _ then _ else _) = _; split <;> rfl)
    (W2 m) (W3 m) (rest_same1 m)
    (fun _ => iprop(emp)) (fun _ => iprop(emp)) (fun c => semVal ((c : Thread nD τ), sW) 0) (fun _ => iprop(emp))
    (fun c => by rw [ownSems1_eq]; iintro ⟨-, H, -⟩; imodintro; iexact H) (in1 m) (out1 m)
    (fun c => by iintro H; imodintro; iexact H)
    (fun _ => 0)
    ⟨fun c w s => by rw [L_tc]; exact Finset.mem_singleton_self _, fun c w s => low (stage_low1 w s), fun c t g i h => absurd h (Nat.lt_irrefl 0)⟩
    (fun c => semVal (barCell c) 0)
    (hW1 m) (hW1' m)

end Cert.KernelIdeal.Talk
-- ==== Proof.Launch.lean ====
/-
  The launch: the exchange's cells are funded, the barrier cells from their counters and the six scoped cells of every
  device without them, and every device is dealt its duty tokens, its credits and the names of the invariants.
-/
module

public import proofs.«01_k».proof.Proof.Segs
public import Idealize.ShloMosaic.Harness.Basic

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)
 (ρ : Dev nD → PrngReg)

/-! ## The cells and the tokens -/

theorem osem0_inj : Function.Injective osem0 := by decide
theorem osem0_ne : ∀ k : Fin 6, osem0 k ≠ .reg barS := by decide

def barAt : Dev nD ↪ GSem nD τ sig := ⟨fun c => barCell c, fun _ _ h => congrArg (fun g : GSem nD τ sig => g.1.1) h⟩
def scopedAt : Dev nD × Fin 6 ↪ GSem nD τ sig :=
  ⟨fun x => at' x.1 (osem0 x.2), fun _ _ h => Prod.ext (congrArg (fun g : GSem nD τ sig => g.1.1) h) (osem0_inj (congrArg Prod.snd h))⟩

/-- Every device's barrier cell. -/
def bars : Finset (GSem nD τ sig) := Finset.univ.map barAt
/-- Every device's six scoped cells. -/
def scopeds : Finset (GSem nD τ sig) := Finset.univ.map scopedAt

/-- The semaphores of the seven duties. -/
abbrev dsem : Fin 7 → SemLoc sig := fun | 0 => .reg barS | 1 => rA | 2 => rB | 3 => rC | 4 => sA | 5 => sB | 6 => sC
theorem dsem_inj : Function.Injective dsem := by decide
/-- Every duty of every device's cells. -/
def dutySet : Finset (GSem nD τ sig × ℕ × Unit) :=
  Finset.univ.map ⟨fun x : Dev nD × Fin 7 => (at' x.1 (dsem x.2), 0, ()), fun _ _ h =>
    Prod.ext (congrArg (fun t : GSem nD τ sig × ℕ × Unit => t.1.1.1) h) (dsem_inj (congrArg (fun t : GSem nD τ sig × ℕ × Unit => t.1.2) h))⟩

theorem bars_scopeds : Disjoint bars scopeds := by
  rw [Finset.disjoint_left]
  intro g h₁ h₂
  obtain ⟨c, -, rfl⟩ := Finset.mem_map.mp h₁
  obtain ⟨x, -, h⟩ := Finset.mem_map.mp h₂
  exact osem0_ne x.2 (congrArg Prod.snd h)

theorem mem_bar (c : Dev nD) : barCell c ∈ bars ∪ scopeds := Finset.mem_union_left _ (Finset.mem_map_of_mem barAt (Finset.mem_univ c))
theorem mem_scoped (c : Dev nD) (k : Fin 6) : at' c (osem0 k) ∈ bars ∪ scopeds :=
  Finset.mem_union_right _ (Finset.mem_map_of_mem scopedAt (Finset.mem_univ (c, k)))

/-- The launch element: the pipelines' share, the exchange's, and no counter. -/
def u₀ : UU :=
  (initOf (Pipeline.cells (Pipeline.pin (pcfgs (F := F)) adm) cellOf_inj) (Pipeline.launchToks (Pipeline.pin (pcfgs (F := F)) adm) cellOf_inj),
    (launchOf bars scopeds dutySet, 1))

/-- The exchange's share, whole on device 0. -/
def G (c : Dev nD) : sProp 𝕄 := if c = 0 then BI.own (ER (launchOf bars scopeds dutySet)) else iprop(emp)
theorem G_all : bigSep Finset.univ (G (F := F)) = BI.own (ER (launchOf bars scopeds dutySet)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What every device may consult, and what each one keeps -/

variable (X : Vals F)

/-- All the invariants at the names κ, and that every barrier cell is at round 0. -/
def shared (κ : GSem nD τ sig → ℕ) : sProp 𝕄 :=
  iprop((bigSep (bars ∪ scopeds) fun g => cellInv ER (rd X) (κ g) g) ∗ bigSep bars fun g => reached ER g 0)
instance shared_persistent (κ : GSem nD τ sig → ℕ) : BI.Persistent (shared X κ) := by unfold shared; infer_instance

theorem inv_of (κ : GSem nD τ sig → ℕ) {g : GSem nD τ sig} (hg : g ∈ bars ∪ scopeds) :
    (bigSep (bars ∪ scopeds) fun g => (cellInv ER (rd X) (κ g) g : sProp 𝕄)) ⊢ cellInv ER (rd X) (κ g) g := bigSep_elim hg
theorem round_of (c : Dev nD) : (bigSep bars fun g => (reached ER g 0 : sProp 𝕄)) ⊢ reached ER (barCell c) 0 :=
  bigSep_elim (Finset.mem_map_of_mem barAt (Finset.mem_univ c))

/-- The right to open each of the six scoped cells. -/
def rights (c : Dev nD) : sProp 𝕄 :=
  iprop(openTok ER (at' c sA) ∗ openTok ER (at' c sB) ∗ openTok ER (at' c sC) ∗ openTok ER (at' c rA) ∗ openTok ER (at' c rB) ∗ openTok ER (at' c rC))

/-- What device c alone keeps of the exchange. -/
def mine (c : Dev nD) : sProp 𝕄 := iprop(atPos ER (barCell c) 0 ∅ 0 ∗ rights c ∗ toks c)

theorem ghost_of (κ : GSem nD τ sig → ℕ) (c : Dev nD) : iprop(shared X κ ∗ mine c) ⊢ iprop(∃ K, ghost X K c) := by
  unfold shared mine ghost invs rights
  iintro ⟨⟨#HI, #HR⟩, Ha, Ho, Ht⟩
  iexists κ
  isplitr
  · isplitr; · iapply (inv_of X κ (mem_bar c)); iexact HI
    isplitr; · iapply (inv_of X κ (mem_scoped c 0)); iexact HI
    isplitr; · iapply (inv_of X κ (mem_scoped c 1)); iexact HI
    isplitr; · iapply (inv_of X κ (mem_scoped c 2)); iexact HI
    isplitr; · iapply (inv_of X κ (mem_scoped c 3)); iexact HI
    isplitr; · iapply (inv_of X κ (mem_scoped c 4)); iexact HI
    isplitr; · iapply (inv_of X κ (mem_scoped c 5)); iexact HI
    isplitr; · iapply (inv_of X κ (mem_bar (pr c))); iexact HI
    isplitr; · iapply (inv_of X κ (mem_scoped (pr c) 3)); iexact HI
    isplitr; · iapply (inv_of X κ (mem_scoped (pr c) 4)); iexact HI
    iapply (inv_of X κ (mem_scoped (pr c) 5)); iexact HI
  isplitl [Ha]; · iexact Ha
  isplitl [Ho]; · iexact Ho
  isplitr; · iapply (round_of (F := F) (pr c)); iexact HR
  iexact Ht

theorem bigSep_six (Φ : Fin 6 → sProp 𝕄) : bigSep Finset.univ Φ = iprop(Φ 0 ∗ Φ 1 ∗ Φ 2 ∗ Φ 3 ∗ Φ 4 ∗ Φ 5) := by
  rw [show (Finset.univ : Finset (Fin 6)) = {0, 1, 2, 3, 4, 5} from by decide, bigSep_insert (by decide), bigSep_insert (by decide),
    bigSep_insert (by decide), bigSep_insert (by decide), bigSep_insert (by decide), bigSep_singleton]
  rfl
theorem bigSep_seven (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide, bigSep_insert (by decide), bigSep_insert (by decide),
    bigSep_insert (by decide), bigSep_insert (by decide), bigSep_insert (by decide), bigSep_insert (by decide), bigSep_singleton]
  rfl

theorem deal_rights : bigSep scopeds (fun g => (openTok ER g : sProp 𝕄)) = bigSep Finset.univ fun c : Dev nD => rights (F := F) c := by
  unfold scopeds; rw [bigSep_map, bigSep_univ_prod]
  exact bigSep_congr fun c _ => by unfold rights; rw [bigSep_six]; rfl

/-- The seven tokens of device c's own cells. -/
def ownToks (c : Dev nD) : sProp 𝕄 :=
  iprop(dutyTok ER (barCell c) 0 () ∗ dutyTok ER (at' c rA) 0 () ∗ dutyTok ER (at' c rB) 0 () ∗ dutyTok ER (at' c rC) 0 ()
    ∗ dutyTok ER (at' c sA) 0 () ∗ dutyTok ER (at' c sB) 0 () ∗ dutyTok ER (at' c sC) 0 ())
theorem all_toks : bigSep dutySet (fun x => (dutyTok ER x.1 x.2.1 x.2.2 : sProp 𝕄)) = bigSep Finset.univ fun c : Dev nD => ownToks (F := F) c := by
  unfold dutySet; rw [bigSep_map, bigSep_univ_prod]
  exact bigSep_congr fun c _ => by unfold ownToks; rw [bigSep_seven]; rfl

/-- Every duty's token goes to the device that pays it: those of a barrier cell and of the receive cells to the partner. -/
theorem deal_toks : (bigSep Finset.univ fun c : Dev nD => (ownToks (F := F) c : sProp 𝕄)) ⊢ bigSep Finset.univ fun c : Dev nD => toks (F := F) c := by
  unfold ownToks toks
  rw [bigSep_sep', bigSep_sep', bigSep_sep', bigSep_sep', bigSep_sep', bigSep_sep', bigSep_sep', bigSep_sep', bigSep_sep', bigSep_sep', bigSep_sep', bigSep_sep',
    bigSep_univ_equiv flip (fun c : Dev nD => (dutyTok ER (barCell c) 0 () : sProp 𝕄)),
    bigSep_univ_equiv flip (fun c : Dev nD => (dutyTok ER (at' c rA) 0 () : sProp 𝕄)),
    bigSep_univ_equiv flip (fun c : Dev nD => (dutyTok ER (at' c rB) 0 () : sProp 𝕄)),
    bigSep_univ_equiv flip (fun c : Dev nD => (dutyTok ER (at' c rC) 0 () : sProp 𝕄))]
  exact BI.Entails.refl _

/-! ## The launch credit -/

theorem at_iff (d c : Dev nD) (sm sm' : SemLoc sig) : at' c sm = at' (pr d) sm' ↔ d = pr c ∧ sm = sm' :=
  ⟨fun h => ⟨by rw [show c = pr d from congrArg (fun g : GSem nD τ sig => g.1.1) h, pr_pr], congrArg Prod.snd h⟩,
    fun h => by rw [h.1, pr_pr, h.2]⟩

theorem owed (d c : Dev nD) (sm : SemLoc sig) : O₀ d (at' c sm) () =
    if d = pr c then (((if sm = rA then nA else 0) + (if sm = rB then nA else 0)) + (if sm = rC then nC else 0)) + (if sm = .reg barS then 1 else 0) else 0 := by
  show ((tallyAt (at' (pr d) rA) () nA (at' c sm) () + tallyAt (at' (pr d) rB) () nA (at' c sm) ()) + tallyAt (at' (pr d) rC) () nC (at' c sm) ())
    + tallyAt (barCell (pr d)) () 1 (at' c sm) () = _
  rw [tallyAt_apply, tallyAt_apply, tallyAt_apply, tallyAt_apply]
  simp only [at_iff, and_true]
  by_cases h : d = pr c
  · simp only [h, true_and, if_true]
  · simp only [h, false_and, if_false]

theorem credit_at (c : Dev nD) (sm : SemLoc sig) (n : ℕ)
    (hn : (((if sm = rA then nA else 0) + (if sm = rB then nA else 0)) + (if sm = rC then nC else 0)) + (if sm = .reg barS then 1 else 0) = n) :
    tallyOn (at' c sm) (launchCredit (Pipeline.owing O₀) 0 (at' c sm)) = (tallyAt (at' c sm) () n : CellTallies nD τ sig Unit) := by
  unfold tallyAt; refine congrArg _ (Finsupp.ext fun u => ?_); cases u
  rw [Pipeline.launchCredit_owing, Finsupp.single_eq_same, Finset.sum_congr rfl fun d _ => owed d c sm, hn, Finset.sum_ite_eq' Finset.univ (pr c) fun _ => n,
    if_pos (Finset.mem_univ _)]

theorem deal_creds (c : Dev nD) : (Pipeline.launchCred O₀ c : sProp 𝕄) ⊢ creds (F := F) c := by
  unfold Pipeline.launchCred creds
  refine (bigSep_subset (Finset.subset_univ ({.reg barS, rA, rB, rC} : Finset (SemLoc sig)))).trans ?_
  rw [bigSep_insert (by decide), bigSep_insert (by decide), bigSep_insert (by decide), bigSep_singleton]
  rw [credit_at c (.reg barS) 1 (by rw [if_neg (by decide), if_neg (by decide), if_neg (by decide), if_pos rfl]),
    credit_at c rA nA (by rw [if_pos rfl, if_neg (by decide), if_neg (by decide), if_neg (by decide)]; rfl),
    credit_at c rB nA (by rw [if_neg (by decide), if_pos rfl, if_neg (by decide), if_neg (by decide), Nat.zero_add]; rfl),
    credit_at c rC nC (by rw [if_neg (by decide), if_neg (by decide), if_pos rfl, if_neg (by decide), Nat.zero_add]; rfl)]
  exact BI.Entails.refl _

theorem counters (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

end Cert.KernelIdeal.Talk
-- ==== Proof.Run.lean ====
/-
  The run of @main: the launch deals the first thread state, the four items chain, and at the end every device's
  buffers hold the last valuation and every counter reads zero.
-/
module

public import proofs.«01_k».proof.Proof.Launch
public import Idealize.ShloMosaic.Lib.Quiescent

@[expose] public section

set_option maxRecDepth 16384

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg BodyObligation cellOf)
open Idealize.ShloMosaic.Smoke (bigSep_pair bigSep_unpair)

variable {F : FTy → Type} [FloatOps F]

local notation "𝕄" => MT nD τ sig Unit (Elt F) ℕ UU ℕ

variable (m : (ℓ : Loc nD τ sig) → Buf (Elt F) ℓ)
 (ρ : Dev nD → PrngReg)

/-! ## The thread states between the items -/

/-- The unscoped buffers at the valuation V. -/
abbrev bufsAt (V : Dev nD → Valuation τ sig (Elt F)) (c : Dev nD) : sProp 𝕄 := StableHlo.held (c : Thread nD τ) (Pipeline.ucRefs τ sig) (V c)

/-- Beside the buffers, up to the first kernel call. -/
def E0 (c : Dev nD) : sProp 𝕄 := iprop(start (vals m) c ∗ (∃ r, prngReg c r) ∗ ∃ Wd, owes (c : Thread nD τ) (O₀ c) Wd)
/-- Beside the buffers, after it. -/
def E1 (c : Dev nD) : sProp 𝕄 := iprop(semVal (barCell c) 0 ∗ (∃ r, prngReg c r) ∗ ∃ Wd, owes (c : Thread nD τ) (0 : CellTallies nD τ sig Unit) Wd)

theorem sub0 : Pipeline.arrRefs spec0 ⊆ Pipeline.ucRefs τ sig := Pipeline.arrRefs_sub_ucRefs spec0 (by decide)
theorem sub1 : Pipeline.arrRefs spec1 ⊆ Pipeline.ucRefs τ sig := Pipeline.arrRefs_sub_ucRefs spec1 (by decide)

theorem pre0 (c : Dev nD) : iprop(bufsAt (fun c => StableHlo.after hostOps0 (V0 m c)) c ∗ E0 m c) ⊢ (reg0 m).pre c := by
  show iprop(StableHlo.held (c : Thread nD τ) (Pipeline.ucRefs τ sig) (V1 m c) ∗ E0 m c)
    ⊢ iprop(StableHlo.held (c : Thread nD τ) (Pipeline.arrRefs spec0) (W1 m c) ∗ (∃ r, prngReg c r) ∗ (StableHlo.held (c : Thread nD τ) Sr0 (W1 m c) ∗ emp)
      ∗ start (vals m) c ∗ ∃ Wd, owes (c : Thread nD τ) (0 + O₀ c) Wd)
  rw [← W1_eq m c, StableHlo.held_sub_split (c : Thread nD τ) sub0 (W1 m c), zero_add]
  unfold E0 Sr0
  iintro ⟨⟨Ha, Hr⟩, Hs, Hp, HO⟩
  isplitl [Ha]; · iexact Ha
  isplitl [Hp]; · iexact Hp
  isplitl [Hr]
  · isplitl [Hr]; · iexact Hr
    iempintro
  isplitl [Hs]; · iexact Hs
  iexact HO

theorem post0 (c : Dev nD) : (reg0 m).post c ⊢ iprop(bufsAt (W2 m) c ∗ E1 (F := F) c) := by
  show iprop(StableHlo.held (c : Thread nD τ) (Pipeline.arrRefs spec0) (W2 m c) ∗ (∃ r, prngReg c r) ∗ (StableHlo.held (c : Thread nD τ) Sr0 (W2 m c) ∗ emp)
      ∗ semVal (barCell c) 0 ∗ ∃ Wd, owes (c : Thread nD τ) (0 : CellTallies nD τ sig Unit) Wd)
    ⊢ iprop(StableHlo.held (c : Thread nD τ) (Pipeline.ucRefs τ sig) (W2 m c) ∗ E1 (F := F) c)
  rw [StableHlo.held_sub_split (c : Thread nD τ) sub0 (W2 m c)]
  unfold E1 Sr0
  iintro ⟨Ha, Hp, ⟨Hr, -⟩, Hb, HO⟩
  isplitl [Ha Hr]
  · isplitl [Ha] <;> iassumption
  isplitl [Hb]; · iexact Hb
  isplitl [Hp]; · iexact Hp
  iexact HO

theorem pre1 (c : Dev nD) : iprop(bufsAt (W2 m) c ∗ E1 (F := F) c) ⊢ (reg1 m).pre c := by
  show iprop(StableHlo.held (c : Thread nD τ) (Pipeline.ucRefs τ sig) (W2 m c) ∗ E1 (F := F) c)
    ⊢ iprop(StableHlo.held (c : Thread nD τ) (Pipeline.arrRefs spec1) (W2 m c) ∗ (∃ r, prngReg c r)
      ∗ (StableHlo.held (c : Thread nD τ) Sr1 (W2 m c) ∗ semVal (barCell c) 0)
      ∗ emp ∗ ∃ Wd, owes (c : Thread nD τ) ((0 : CellTallies nD τ sig Unit) + 0) Wd)
  rw [StableHlo.held_sub_split (c : Thread nD τ) sub1 (W2 m c), zero_add]
  unfold E1 Sr1
  iintro ⟨⟨Ha, Hr⟩, Hb, Hp, HO⟩
  isplitl [Ha]; · iexact Ha
  isplitl [Hp]; · iexact Hp
  isplitl [Hr Hb]
  · isplitl [Hr] <;> iassumption
  isplitr; · iempintro
  iexact HO

theorem post1 (c : Dev nD) : (reg1 m).post c ⊢ iprop(bufsAt (W3 m) c ∗ E1 (F := F) c) := by
  show iprop(StableHlo.held (c : Thread nD τ) (Pipeline.arrRefs spec1) (W3 m c) ∗ (∃ r, prngReg c r)
      ∗ (StableHlo.held (c : Thread nD τ) Sr1 (W3 m c) ∗ semVal (barCell c) 0)
      ∗ emp ∗ ∃ Wd, owes (c : Thread nD τ) (0 : CellTallies nD τ sig Unit) Wd)
    ⊢ iprop(StableHlo.held (c : Thread nD τ) (Pipeline.ucRefs τ sig) (W3 m c) ∗ E1 (F := F) c)
  rw [StableHlo.held_sub_split (c : Thread nD τ) sub1 (W3 m c)]
  unfold E1 Sr1
  iintro ⟨Ha, Hp, ⟨Hr, Hb⟩, -, HO⟩
  isplitl [Ha Hr]
  · isplitl [Ha] <;> iassumption
  isplitl [Hb]; · iexact Hb
  isplitl [Hp]; · iexact Hp
  iexact HO

/-! ## The launch's first thread state -/

abbrev T0 (c : Dev nD) : sProp 𝕄 := iprop(bufsAt (V0 m) c ∗ E0 m c)
abbrev Tn (c : Dev nD) : sProp 𝕄 := iprop(bufsAt (W4 m) c ∗ semVal (barCell c) 0)

/-- What a device launches with beside the exchange's share. -/
def held0 (c : Dev nD) : sProp 𝕄 :=
  iprop(bufsAt (V0 m) c ∗ creds c ∗ owes (c : Thread nD τ) (O₀ c) ∅ ∗ ∃ r, prngReg c r)

theorem T0_of (κ : GSem nD τ sig → ℕ) (c : Dev nD) : iprop(shared (vals m) κ ∗ (mine c ∗ held0 m c)) ⊢ T0 m c := by
  unfold held0 T0 E0 start
  iintro ⟨#HR, Hl, Hh, Hc, HO, Hp⟩
  isplitl [Hh]; · iexact Hh
  isplitl [Hl Hc]
  · isplitl [Hl]
    · iapply (ghost_of (vals m) κ c)
      isplitr; · iexact HR
      iexact Hl
    iexact Hc
  isplitl [Hp]; · iexact Hp
  iexists ∅; iexact HO

theorem core0 (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(held0 m c ∗ (semVal (barCell c) 0 ∗ G c)) : sProp 𝕄) := by
  rw [show (unscopedBufs c (fun b => m ((c : Thread nD τ).loc b)) : sProp 𝕄) = bufsAt (V0 m) c from Pipeline.unscopedBufs_held c (V0 m c), counters]
  unfold held0
  iintro ⟨Hh, Hs, HO, Hc, Hp, HG⟩
  isplitl [Hh HO Hc Hp]
  · isplitl [Hh]; · iexact Hh
    isplitl [Hc]; · iapply (deal_creds (F := F) c); iexact Hc
    isplitl [HO]; · iexact HO
    iexists (ρ c); iexact Hp
  isplitl [Hs] <;> iassumption

theorem launch :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T0 m) : sProp 𝕄) := by
  have a0 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(held0 m c ∗ (semVal (barCell c) 0 ∗ G c)) : sProp 𝕄) := bigSep_mono fun c _ => core0 m ρ c
  have a1 : bigSep Finset.univ (fun c : Dev nD => (semVal (barCell c) 0 : sProp 𝕄)) ⊢ bigSep bars (fun g => (semVal g 0 : sProp 𝕄)) :=
    Entails.of_eq (bigSep_map (s := Finset.univ) barAt (Φ := fun g : GSem nD τ sig => (semVal g 0 : sProp 𝕄))).symm
  have a2 : bigSep bars (fun g => (atPos ER g 0 ∅ 0 : sProp 𝕄)) ⊢ bigSep Finset.univ (fun c : Dev nD => (atPos ER (barCell c) 0 ∅ 0 : sProp 𝕄)) :=
    Entails.of_eq (bigSep_map (s := Finset.univ) barAt (Φ := fun g : GSem nD τ sig => (atPos ER g 0 ∅ 0 : sProp 𝕄)))
  iintro ⟨H, -⟩
  ihave H1 := a0 $$ H
  ihave H2 := bigSep_unpair $$ H1; icases H2 with ⟨HB, H3⟩
  ihave H4 := bigSep_unpair $$ H3; icases H4 with ⟨Hv, HG⟩
  ihave Hu := (Entails.of_eq (G_all (F := F))) $$ HG
  imod (Rounds.fund_launch ER (rd (vals m)) bars_scopeds (fun g _ h => h) dutySet) $$ [Hv Hu] with ⟨%κ, -, #Hinv, #Hr, Hat, Hopen, Htok⟩
  · isplitl [Hv]
    · iapply a1 $$ Hv
    · iexact Hu
  imodintro
  iapply (bigSep_with_persistent (R := shared (vals m) κ) (Φ := fun c => iprop(mine c ∗ held0 m c)) fun c _ => T0_of m κ c)
  isplitr
  · unfold shared
    isplitr; · iexact Hinv
    iexact Hr
  iapply bigSep_pair
  isplitr [HB]
  · unfold mine
    iapply bigSep_pair; isplitl [Hat]; · iapply a2 $$ Hat
    iapply bigSep_pair; isplitl [Hopen]; · iapply (Entails.of_eq (deal_rights (F := F))) $$ Hopen
    iapply (deal_toks (F := F))
    iapply (Entails.of_eq (all_toks (F := F))) $$ Htok
  · iexact HB

/-! ## The items and the run -/

/-- The last host stretch, from the contents after the second kernel call. -/
def last : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (E1 (F := F))

/-- @main as its four items. -/
def items : List (Pipeline.Seg (pcfgs (F := F)) adm (pdats m) () defs₀ 𝒱₀ L lv) :=
  [.host (seg0 m 𝒱₀ L lv (fun _ => E0 m)), .region (reg0 m), .region (reg1 m), .host (last m)]

theorem unscoped_bar : ∀ sm : SemLoc sig, sm.isScoped .tc = false → sm = .reg barS := by decide

theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- An argument reaches the end as launched. -/
theorem W4_arg (c : Dev nD) (r : Ref sig .tc) (h : r ∉ ([main_v1, main_v2, main_v3_0, main_v3_1, main_v3_2, main_v4, main_v5] : List (Ref sig .tc))) :
    W4 m c r = m ((c : Thread nD τ).loc r) := by
  simp only [List.mem_cons, List.not_mem_nil, or_false, not_or] at h
  obtain ⟨h1, h2, h3, h4, h5, h6, h7⟩ := h
  have e1 : W4 m c r = W3 m c r := StableHlo.after_of_writes_sub hostOps2 _ hostOps2_writes (by simpa using h7)
  have e2 := W3_of m c r h6
  have e3 := W2_of m c r (by simp only [List.mem_cons, List.not_mem_nil, or_false, not_or]; exact ⟨h3, h4, h5⟩)
  have e4 : W1 m c r = V1 m c r := congrFun (W1_eq m c) _
  have e5 := V1_of m c r (by simp only [hostOps0_W, List.mem_cons, List.not_mem_nil, or_false, not_or]; exact ⟨h1, h2⟩)
  exact e1.trans (e2.trans (e3.trans (e4.trans e5)))

set_option backward.isDefEq.respectTransparency.types false in
/-- From any memory with zero counters every weakly fair execution of @main terminates, and at the end every unscoped
    buffer of every device holds the last valuation and every counter of the machine reads zero. -/
theorem run_all : θ_run defs (onTc (τ := τ) (main (F := F))) ⟨m, fun _ => 0, ρ⟩
    (fun r => (∀ (c : Dev nD) (b : Ref sig .tc), b.isScoped = false → r.2.mem ((c : Thread nD τ).loc b) = W4 m c b) ∧ r.2.sem = fun _ => 0) :=
  Pipeline.θ_run_regions_kit_sems (pcfgs (F := F)) adm (pdats m) () cellOf_inj EP defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact BI.Entails.refl _)
    (by simp only [items, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      ihave H2 := (own_pair_emb embR _ _) $$ HX
      icases H2 with ⟨HX, -⟩
      imodintro
      isplitl [HP]; · iexact HP
      iapply (Entails.of_eq (G_all (F := F)).symm)
      unfold ER
      iexact HX)
    (T₀ := T0 m) (Tₙ := Tn m)
    (hch := by
      refine ⟨fun c => BI.Entails.refl _, fun c => pre0 m c, fun c => (post0 m c).trans (pre1 m c), fun c => post1 m c, fun c => ?_⟩
      show iprop(bufsAt (W4 m) c ∗ E1 (F := F) c) ⊢ iprop(Tn m c ∗ ∃ Wd, owes (c : Thread nD τ) (0 : CellTallies nD τ sig Unit) Wd)
      unfold E1 Tn
      iintro ⟨Hh, Hb, -, HO⟩
      isplitr [HO]
      · isplitl [Hh] <;> iassumption
      · iexact HO)
    (hinit := launch m ρ)
    (QY := fun c s => (∀ b : Ref sig .tc, b.isScoped = false → s.mem ((c : Thread nD τ).loc b) = W4 m c b) ∧ s.sem (barCell c) = 0)
    (hfin := fun c s' => by
      unfold Tn bufsAt StableHlo.held
      iintro ⟨⟨Hh, Hb⟩, HSI⟩
      icombine HSI Hb gives %hb
      ihave Hr := (pointsTo_read_all (Pipeline.ucRefs τ sig) (fun b => ((c : Thread nD τ).1, b)) (W4 m c) s') $$ [Hh HSI]
      · isplitl [Hh] <;> iassumption
      icases Hr with ⟨%h, HSI⟩
      imodintro
      isplitr
      · ipureintro
        exact ⟨fun b hs => h (Proc.devRef .tc b) (mem_uc b hs), by simpa using hb⟩
      iexact HSI)
    (hQ := fun s h hs => ⟨fun c => (h c).1, sem_eq_zero hs fun c sm hsm => by
        obtain rfl := unscoped_bar sm hsm
        exact (h c).2⟩)

/-- The run, as the claims read it. -/
theorem run_main : θ_run defs (onTc (τ := τ) (main (F := F))) ⟨m, fun _ => 0, ρ⟩
    (fun r => (∀ c : Dev nD, r.2.mem ((c : Thread nD τ).loc main_v5) = W4 m c main_v5
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun r h => ⟨fun c => ⟨h.1 c main_v5 (by decide),
    (h.1 c main_arg0 (by decide)).trans (W4_arg m c main_arg0 (by decide)),
    (h.1 c main_arg1 (by decide)).trans (W4_arg m c main_arg1 (by decide)),
    (h.1 c main_arg2 (by decide)).trans (W4_arg m c main_arg2 (by decide)),
    (h.1 c main_arg3 (by decide)).trans (W4_arg m c main_arg3 (by decide)),
    (h.1 c main_arg4 (by decide)).trans (W4_arg m c main_arg4 (by decide)),
    (h.1 c main_arg5 (by decide)).trans (W4_arg m c main_arg5 (by decide)),
    (h.1 c main_arg6 (by decide)).trans (W4_arg m c main_arg6 (by decide)),
    (h.1 c main_arg7 (by decide)).trans (W4_arg m c main_arg7 (by decide))⟩, h.2⟩) (run_all m ρ)

end Cert.KernelIdeal.Talk
-- ==== Proof.Spec.lean ====
/-
  Attention over a latent, over the extended reals: the function both programs compute, in the two orders in which they
  compute it, and why the orders agree when every score is a real number.
-/
module

public import Idealize.ShloMosaic.Lib.Pointwise
public import Idealize.ShloMosaic.Lib.Pipeline.ValueKit

@[expose] public section

set_option maxRecDepth 16384

noncomputable section

namespace Cert.Attn

open Idealize.ShloMosaic

/-- The scale of a score, 1/√160 at single precision. -/
abbrev scale : EReal := Ideal.ofBits .f32 0x3DA1E89B#32

/-- An extended real that is a real number. -/
def IsReal (x : EReal) : Prop := ∃ r : ℝ, (r : EReal) = x

theorem IsReal.add {x y : EReal} (hx : IsReal x) (hy : IsReal y) : IsReal (x + y) := by
  obtain ⟨a, rfl⟩ := hx; obtain ⟨b, rfl⟩ := hy; exact ⟨a + b, EReal.coe_add a b⟩

theorem IsReal.mul {x y : EReal} (hx : IsReal x) (hy : IsReal y) : IsReal (x * y) := by
  obtain ⟨a, rfl⟩ := hx; obtain ⟨b, rfl⟩ := hy; exact ⟨a * b, EReal.coe_mul a b⟩

theorem IsReal.sum {ι : Type} (S : Finset ι) (f : ι → EReal) (h : ∀ i ∈ S, IsReal (f i)) : IsReal (∑ i ∈ S, f i) :=
  Finset.sum_induction f IsReal (fun _ _ => IsReal.add) ⟨0, rfl⟩ h

theorem isReal_of_bounds {x : EReal} (h : max x (-x) < ⊤) : IsReal x := by
  rcases max_lt_iff.mp h with ⟨h1, h2⟩
  refine ⟨x.toReal, EReal.coe_toReal h1.ne ?_⟩
  rintro rfl
  simp at h2

theorem scale_real : ∃ r : ℝ, 0 ≤ r ∧ scale = r := by
  refine ⟨10610843 / 134217728, by norm_num, ?_⟩
  simp [scale, Ideal.ofBits, Ideal.ieee, -EReal.coe_mul]
  norm_num

/-- A product by a real that is not negative goes through a sum. -/
theorem sum_mul_nonneg {ι : Type} (S : Finset ι) (f : ι → EReal) (r : ℝ) (h0 : 0 ≤ r) :
    (∑ i ∈ S, f i) * (r : EReal) = ∑ i ∈ S, f i * (r : EReal) := by
  classical
  have h0' : (0 : EReal) ≤ (r : EReal) := EReal.coe_nonneg.mpr h0
  induction S using Finset.induction_on with
  | empty => simp
  | insert a S ha ih =>
    rw [Finset.sum_insert ha, Finset.sum_insert ha, EReal.right_distrib_of_nonneg_of_ne_top h0' (EReal.coe_ne_top r), ih]

theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The largest of finitely many reals, from -∞, is one of them. -/
theorem fold_max_real {n : ℕ} (s : Fin (n + 1) → EReal) (h : ∀ t, IsReal (s t)) :
    IsReal (Finset.fold max (⊥ : EReal) (fun t => s t) Finset.univ) := by
  have e : Finset.fold max (⊥ : EReal) (fun t => s t) Finset.univ = Finset.univ.sup s := rfl
  rw [e]
  obtain ⟨i, -, hi⟩ := Finset.exists_mem_eq_sup Finset.univ Finset.univ_nonempty s
  rw [hi]
  exact h i

/-- The weighted mean with the largest score taken off first, as one quotient of sums of plain exponentials. -/
theorem softmax {n : ℕ} (s v : Fin (n + 1) → EReal) (M : EReal) (h : ∀ t, IsReal (s t)) (hM : IsReal M) :
    ∑ t, v t * Ideal.div (Ideal.exp (s t - M)) (∑ t', Ideal.exp (s t' - M))
      = (∑ t, Ideal.exp (s t) * v t) * Ideal.div 1 (∑ t, Ideal.exp (s t)) := by
  choose a ha using h
  obtain ⟨μ, rfl⟩ := hM
  obtain rfl : s = fun t => (a t : EReal) := funext fun t => (ha t).symm
  have e1 : ∀ t, Ideal.exp ((a t : EReal) - (μ : EReal)) = ((Real.exp (a t - μ) : ℝ) : EReal) := fun t => by
    rw [← EReal.coe_sub]; rfl
  have e2 : ∀ t, Ideal.exp (a t : EReal) = ((Real.exp (a t) : ℝ) : EReal) := fun t => rfl
  simp only [e1, e2, ← coe_sum]
  have p1 : (0 : ℝ) < ∑ t, Real.exp (a t - μ) := Finset.sum_pos (fun t _ => Real.exp_pos _) Finset.univ_nonempty
  have p2 : (0 : ℝ) < ∑ t, Real.exp (a t) := Finset.sum_pos (fun t _ => Real.exp_pos _) Finset.univ_nonempty
  have q : ∑ t, Real.exp (a t - μ) = (∑ t, Real.exp (a t)) * Real.exp (-μ) := by
    rw [Finset.sum_mul]; exact Finset.sum_congr rfl fun t _ => by rw [← Real.exp_add, sub_eq_add_neg]
  have d1 : ∀ t, Ideal.div ((Real.exp (a t - μ) : ℝ) : EReal) ((∑ t, Real.exp (a t - μ) : ℝ) : EReal)
      = ((Real.exp (a t) * (1 / ∑ t, Real.exp (a t)) : ℝ) : EReal) := fun t => by
    rw [Ideal.div, if_neg (by exact_mod_cast p1.ne'), ← EReal.coe_inv, ← EReal.coe_mul]
    congr 1
    rw [q, sub_eq_add_neg, Real.exp_add]
    have := (Real.exp_pos (-μ)).ne'
    field_simp
  have d2 : Ideal.div 1 ((∑ t, Real.exp (a t) : ℝ) : EReal) = ((1 / ∑ t, Real.exp (a t) : ℝ) : EReal) := by
    rw [Ideal.div, if_neg (by exact_mod_cast p2.ne'), ← EReal.coe_inv, one_mul, one_div]
  rw [d2, sum_mul_nonneg _ _ _ (by positivity)]
  refine Finset.sum_congr rfl fun t _ => ?_
  rw [d1, EReal.coe_mul, ← mul_assoc, mul_comm (v t)]

section

abbrev SX : Shape := ⟨3, ![2, 512, 2048]⟩
abbrev SM (a b : ℕ) : Shape := ⟨2, ![a, b]⟩

/-- A projection of the activations: row s of batch b, column e. -/
def proj {n : ℕ} (x : SX.Idx → EReal) (w : (SM 2048 n).Idx → EReal) (b : Fin 2) (s : Fin 512) (e : Fin n) : EReal :=
  ∑ k : Fin 2048, x (ix3 b s k) * w (ix2 k e)

/-- The latent of a row taken back up. -/
def up (x : SX.Idx → EReal) (d : (SM 2048 256).Idx → EReal) (u : (SM 256 2048).Idx → EReal) (b : Fin 2) (t : Fin 512) (e : Fin 2048) : EReal :=
  ∑ r : Fin 256, proj x d b t r * u (ix2 r e)

/-- The score of query row s against key row t in head h. -/
def score (x : SX.Idx → EReal) (d : (SM 2048 256).Idx → EReal) (u : (SM 256 2048).Idx → EReal) (wq : (SM 2048 2048).Idx → EReal)
    (wqr : (SM 2048 512).Idx → EReal) (wkr : (SM 2048 32).Idx → EReal) (b : Fin 2) (h : Fin 16) (s t : Fin 512) : EReal :=
  ((∑ l : Fin 128, proj x wq b s ⟨h.val * 128 + l.val, by omega⟩ * up x d u b t ⟨h.val * 128 + l.val, by omega⟩)
    + ∑ l : Fin 32, proj x wqr b s ⟨h.val * 32 + l.val, by omega⟩ * proj x wkr b t l) * scale

/-- The result as the reference computes it: the scores less their largest, exponentiated and divided by their sum, weigh
    the values; the output weights follow. -/
def refOut (x : SX.Idx → EReal) (d : (SM 2048 256).Idx → EReal) (uk uv : (SM 256 2048).Idx → EReal) (wq : (SM 2048 2048).Idx → EReal)
    (wqr : (SM 2048 512).Idx → EReal) (wkr : (SM 2048 32).Idx → EReal) (wo : (SM 2048 2048).Idx → EReal)
    (b : Fin 2) (s : Fin 512) (j : Fin 2048) : EReal :=
  ∑ e : Fin 2048, (∑ t : Fin 512, up x d uv b t e
      * Ideal.div (Ideal.exp (score x d uk wq wqr wkr b ⟨e.val / 128, by omega⟩ s t
            - Finset.fold max (Ideal.ofBits .f32 0xFF800000#32) (fun t' => score x d uk wq wqr wkr b ⟨e.val / 128, by omega⟩ s t') Finset.univ))
          (∑ t' : Fin 512, Ideal.exp (score x d uk wq wqr wkr b ⟨e.val / 128, by omega⟩ s t'
            - Finset.fold max (Ideal.ofBits .f32 0xFF800000#32) (fun t' => score x d uk wq wqr wkr b ⟨e.val / 128, by omega⟩ s t') Finset.univ)))
    * wo (ix2 e j)

/-- The result as the kernel computes it: plain exponentials weigh the values, and one reciprocal of their sum is taken. -/
def kerOut (x : SX.Idx → EReal) (d : (SM 2048 256).Idx → EReal) (uk uv : (SM 256 2048).Idx → EReal) (wq : (SM 2048 2048).Idx → EReal)
    (wqr : (SM 2048 512).Idx → EReal) (wkr : (SM 2048 32).Idx → EReal) (wo : (SM 2048 2048).Idx → EReal)
    (b : Fin 2) (s : Fin 512) (j : Fin 2048) : EReal :=
  ∑ e : Fin 2048, ((∑ t : Fin 512, Ideal.exp (score x d uk wq wqr wkr b ⟨e.val / 128, by omega⟩ s t) * up x d uv b t e)
      * Ideal.div 1 (∑ t : Fin 512, Ideal.exp (score x d uk wq wqr wkr b ⟨e.val / 128, by omega⟩ s t)))
    * wo (ix2 e j)

variable (x : SX.Idx → EReal) (d : (SM 2048 256).Idx → EReal) (uk uv : (SM 256 2048).Idx → EReal) (wq : (SM 2048 2048).Idx → EReal)
    (wqr : (SM 2048 512).Idx → EReal) (wkr : (SM 2048 32).Idx → EReal) (wo : (SM 2048 2048).Idx → EReal)

theorem proj_real {n : ℕ} (w : (SM 2048 n).Idx → EReal) (hx : ∀ i, IsReal (x i)) (hw : ∀ i, IsReal (w i)) (b : Fin 2) (s : Fin 512) (e : Fin n) :
    IsReal (proj x w b s e) := IsReal.sum _ _ fun _ _ => (hx _).mul (hw _)

theorem score_real (hx : ∀ i, IsReal (x i)) (hd : ∀ i, IsReal (d i)) (hu : ∀ i, IsReal (uk i)) (hq : ∀ i, IsReal (wq i))
    (hqr : ∀ i, IsReal (wqr i)) (hkr : ∀ i, IsReal (wkr i)) (b : Fin 2) (h : Fin 16) (s t : Fin 512) :
    IsReal (score x d uk wq wqr wkr b h s t) := by
  refine IsReal.mul (IsReal.add ?_ ?_) ?_
  · exact IsReal.sum _ _ fun _ _ => (proj_real x wq hx hq _ _ _).mul (IsReal.sum _ _ fun _ _ => (proj_real x d hx hd _ _ _).mul (hu _))
  · exact IsReal.sum _ _ fun _ _ => (proj_real x wqr hx hqr _ _ _).mul (proj_real x wkr hx hkr _ _ _)
  · obtain ⟨r, -, hr⟩ := scale_real
    exact ⟨r, hr.symm⟩

/-- Both orders compute the same result when every score is a real number. -/
theorem kerOut_eq (hx : ∀ i, IsReal (x i)) (hd : ∀ i, IsReal (d i)) (hu : ∀ i, IsReal (uk i)) (hq : ∀ i, IsReal (wq i))
    (hqr : ∀ i, IsReal (wqr i)) (hkr : ∀ i, IsReal (wkr i)) (b : Fin 2) (s : Fin 512) (j : Fin 2048) :
    kerOut x d uk uv wq wqr wkr wo b s j = refOut x d uk uv wq wqr wkr wo b s j := by
  have hb : Ideal.ofBits .f32 0xFF800000#32 = (⊥ : EReal) := by simp [Ideal.ofBits, Ideal.ieee]
  refine Finset.sum_congr rfl fun e _ => congrArg (· * _) ?_
  rw [hb]
  exact (softmax (n := 511) _ _ _ (fun t => score_real x d uk wq wqr wkr hx hd hu hq hqr hkr _ _ _ t)
    (fold_max_real (n := 511) _ fun t => score_real x d uk wq wqr wkr hx hd hu hq hqr hkr _ _ _ t)).symm

/-- The scaled queries against the keys, 160 columns a head, are the score. -/
theorem score_eq (q k : Fin 160 → EReal) (b : Fin 2) (h : Fin 16) (s t : Fin 512)
    (hq0 : ∀ l : Fin 128, q ⟨l.val, by omega⟩ = proj x wq b s ⟨h.val * 128 + l.val, by omega⟩ * scale)
    (hq1 : ∀ l : Fin 32, q ⟨128 + l.val, by omega⟩ = proj x wqr b s ⟨h.val * 32 + l.val, by omega⟩ * scale)
    (hk0 : ∀ l : Fin 128, k ⟨l.val, by omega⟩ = up x d uk b t ⟨h.val * 128 + l.val, by omega⟩)
    (hk1 : ∀ l : Fin 32, k ⟨128 + l.val, by omega⟩ = proj x wkr b t l) :
    ∑ l, q l * k l = score x d uk wq wqr wkr b h s t := by
  obtain ⟨r, h0, hr⟩ := scale_real
  have e : ∑ l, q l * k l = (∑ l : Fin 128, q ⟨l.val, by omega⟩ * k ⟨l.val, by omega⟩)
      + ∑ l : Fin 32, q ⟨128 + l.val, by omega⟩ * k ⟨128 + l.val, by omega⟩ :=
    Fin.sum_univ_add (a := 128) (b := 32) (fun l => q l * k l)
  rw [e, score, hr, EReal.right_distrib_of_nonneg_of_ne_top (EReal.coe_nonneg.mpr h0) (EReal.coe_ne_top r),
    sum_mul_nonneg _ _ r h0, sum_mul_nonneg _ _ r h0]
  refine congrArg₂ (· + ·) (Finset.sum_congr rfl fun l _ => ?_) (Finset.sum_congr rfl fun l _ => ?_)
  · rw [hq0, hk0, hr, mul_right_comm]
  · rw [hq1, hk1, hr, mul_right_comm]

end

end Cert.Attn
end
-- ==== Proof.ValK.lean ====
/-
  What the second kernel reads and what the program returns, at an index.
-/
module

public import proofs.«01_k».proof.Proof.Segs
public import proofs.«01_k».proof.Proof.Spec
public import Idealize.ShloMosaic.Lib.Pipeline.ValueKit

@[expose] public section

set_option maxRecDepth 16384

noncomputable section

namespace Cert.KernelIdeal.Talk

open Cert.KernelIdeal Cert.KernelIdeal.Gen
open Idealize.ShloMosaic Idealize.ShloMosaic.TcCoe
open Idealize.SL.Sem
open Idealize.ShloMosaic.Pipeline (Dat Cfg)

variable (m : (ℓ : Loc nD τ sig) → Buf (Elt Ideal) ℓ)

/-! ## The operands -/

/-- The arguments of device c. -/
abbrev aX (c : Dev nD) : FVec Ideal S2x512x2048 .f32 := m ((c : Thread nD τ).loc main_arg0)
abbrev aDkv (c : Dev nD) : FVec Ideal S2048x128 .f32 := m ((c : Thread nD τ).loc main_arg1)
abbrev aUk (c : Dev nD) : FVec Ideal S128x2048 .f32 := m ((c : Thread nD τ).loc main_arg2)
abbrev aUv (c : Dev nD) : FVec Ideal S128x2048 .f32 := m ((c : Thread nD τ).loc main_arg3)
abbrev aQ (c : Dev nD) : FVec Ideal S2048x2048 .f32 := m ((c : Thread nD τ).loc main_arg4)
abbrev aQr (c : Dev nD) : FVec Ideal S2048x512 .f32 := m ((c : Thread nD τ).loc main_arg5)
abbrev aKr (c : Dev nD) : FVec Ideal S2048x32 .f32 := m ((c : Thread nD τ).loc main_arg6)
abbrev aWo (c : Dev nD) : FVec Ideal S2048x2048 .f32 := m ((c : Thread nD τ).loc main_arg7)

/-- The activations with their batches' rows one after another. -/
theorem rows_at (x : FVec Ideal S2x512x2048 .f32) (b : Fin 2) (s : Fin 512) (j : Fin 2048) :
    truncf (F := Ideal) .bf16 (shapeCast S1024x2048 x shapeCasts_S2x512x2048_S1024x2048) bitsLt_bf16_f32 (ix2 ⟨b.val * 512 + s.val, by omega⟩ j)
      = x (ix3 b s j) := by
  pointwise
  blk_ext []

theorem opX_at (c : Dev nD) (b : Fin 2) (s : Fin 512) (j : Fin 2048) :
    opX m c (ix2 ⟨b.val * 512 + s.val, by omega⟩ j) = aX m c (ix3 b s j) := by
  have e : W1 m c main_v2 = truncf (F := Ideal) .bf16 (shapeCast S1024x2048 (aX m c) shapeCasts_S2x512x2048_S1024x2048) bitsLt_bf16_f32 := by
    rw [W1_eq]
    after_results_simp <;> rfl
  rw [opX_eq, e]
  exact rows_at (aX m c) b s j

theorem opDkv_m (c : Dev nD) : opDkv m c = aDkv m c := by
  rw [opDkv_eq, W1_eq]; after_results_simp <;> rfl
theorem opUk_m (c : Dev nD) : opUk m c = aUk m c := by
  rw [opUk_eq, W1_eq]; after_results_simp <;> rfl
theorem opUv_m (c : Dev nD) : opUv m c = aUv m c := by
  rw [opUv_eq, W1_eq]; after_results_simp <;> rfl
theorem opQ_m (c : Dev nD) : opQ m c = aQ m c := by
  rw [opQ_eq, W1_eq]; after_results_simp <;> rfl
theorem opQr_m (c : Dev nD) : opQr m c = aQr m c := by
  rw [opQr_eq, W1_eq]; after_results_simp <;> rfl
theorem opKr_m (c : Dev nD) : opKr m c = aKr m c := by
  rw [opKr_eq, W1_eq]; after_results_simp <;> rfl
theorem opO_m (c : Dev nD) : opO m c = aWo m c := by
  rw [opO_eq, W1_eq]; after_results_simp <;> rfl

/-! ## The blocks of the second kernel -/

theorem idx1_0 : ∀ t : Fin cfg1.N, (cfg1.win 0).index t 0 = t.val ∧ (cfg1.win 0).index t 1 = 0 := by decide +kernel
theorem idx1_1 : ∀ t : Fin cfg1.N, (cfg1.win 1).index t 0 = t.val ∧ (cfg1.win 1).index t 1 = 0 := by decide +kernel
theorem idx1_2 : ∀ t : Fin cfg1.N, (cfg1.win 2).index t 0 = t.val ∧ (cfg1.win 2).index t 1 = 0 := by decide +kernel
theorem idx1_3 : ∀ t : Fin cfg1.N, (cfg1.win 3).index t 0 = t.val ∧ (cfg1.win 3).index t 1 = 0 := by decide +kernel

/-- Row s of block t is row 512·t + s, from the block's two coordinates in the array. -/
theorem idx_block {n i0 i1 z : ℕ} (y : (⟨2, ![1024, n]⟩ : Shape).Idx) (t : Fin 2) (s : Fin 512) (l : Fin n) (h0 : i0 = t.val) (h1 : i1 = 0)
    (e0 : (y 0 : ℕ) = i0 * 512 + s.val) (e1 : (y 1 : ℕ) = i1 * z + l.val) : y = ix2 ⟨t.val * 512 + s.val, by omega⟩ l := by
  subst h0 h1
  funext a
  match a with
  | 0 => exact Fin.ext e0
  | 1 => exact Fin.ext (e1.trans (by show 0 * z + l.val = l.val; omega))

theorem emb1_0 (t : Fin 2) (s : Fin 512) (l : Fin 2560) :
    (((cfg1.win 0).blk (t : Fin cfg1.N)).view.emb (ix2 s l) : S1024x2560.Idx) = ix2 ⟨t.val * 512 + s.val, by omega⟩ l :=
  idx_block _ t s l (idx1_0 t).1 (idx1_0 t).2 (Pipeline.Window.rect_emb_val (cfg1.win 0) t (ix2 s l) 0)
    (Pipeline.Window.rect_emb_val (cfg1.win 0) t (ix2 s l) 1)
theorem emb1_1 (t : Fin 2) (s : Fin 512) (l : Fin 2560) :
    (((cfg1.win 1).blk (t : Fin cfg1.N)).view.emb (ix2 s l) : S1024x2560.Idx) = ix2 ⟨t.val * 512 + s.val, by omega⟩ l :=
  idx_block _ t s l (idx1_1 t).1 (idx1_1 t).2 (Pipeline.Window.rect_emb_val (cfg1.win 1) t (ix2 s l) 0)
    (Pipeline.Window.rect_emb_val (cfg1.win 1) t (ix2 s l) 1)
theorem emb1_2 (t : Fin 2) (s : Fin 512) (l : Fin 2048) :
    (((cfg1.win 2).blk (t : Fin cfg1.N)).view.emb (ix2 s l) : S1024x2048.Idx) = ix2 ⟨t.val * 512 + s.val, by omega⟩ l :=
  idx_block _ t s l (idx1_2 t).1 (idx1_2 t).2 (Pipeline.Window.rect_emb_val (cfg1.win 2) t (ix2 s l) 0)
    (Pipeline.Window.rect_emb_val (cfg1.win 2) t (ix2 s l) 1)
theorem emb1_3 (t : Fin 2) (s : Fin 512) (l : Fin 2048) :
    (((cfg1.win 3).blk (t : Fin cfg1.N)).view.emb (ix2 s l) : S1024x2048.Idx) = ix2 ⟨t.val * 512 + s.val, by omega⟩ l :=
  idx_block _ t s l (idx1_3 t).1 (idx1_3 t).2 (Pipeline.Window.rect_emb_val (cfg1.win 3) t (ix2 s l) 0)
    (Pipeline.Window.rect_emb_val (cfg1.win 3) t (ix2 s l) 1)

theorem qB_at (c : Dev nD) (t : Fin 2) (s : Fin 512) (l : Fin 2560) :
    qB m c (t : Fin cfg1.N) (ix2 s l) = qOut m c (ix2 ⟨t.val * 512 + s.val, by omega⟩ l) := congrArg (qOut m c) (emb1_0 t s l)
theorem kB_at (c : Dev nD) (t : Fin 2) (s : Fin 512) (l : Fin 2560) :
    kB m c (t : Fin cfg1.N) (ix2 s l) = kOut m c (ix2 ⟨t.val * 512 + s.val, by omega⟩ l) := congrArg (kOut m c) (emb1_1 t s l)
theorem vB_at (c : Dev nD) (t : Fin 2) (s : Fin 512) (l : Fin 2048) :
    vB m c (t : Fin cfg1.N) (ix2 s l) = vOut m c (ix2 ⟨t.val * 512 + s.val, by omega⟩ l) := congrArg (vOut m c) (emb1_2 t s l)

/-- The second kernel's result is its blocks. -/
theorem oArr_at (c : Dev nD) (t : Fin 2) (s : Fin 512) (l : Fin 2048) :
    oArr m c (ix2 ⟨t.val * 512 + s.val, by omega⟩ l) = oB m c (t : Fin cfg1.N) (ix2 s l) :=
  (congrArg (oArr m c) (emb1_3 t s l)).symm.trans
    ((dat1 m c).arrAt_emb_eq_flushed 3 (Pipeline.Window.hdisj_of_index_inj (cfg1.win 3) (by decide +kernel)) t (flush1_3 t) (ix2 s l))

/-- The program's result is the second kernel's, its rows split into batches. -/
theorem out_at (c : Dev nD) (b : Fin 2) (s : Fin 512) (j : Fin 2048) :
    (W4 m c main_v5 : FVec Ideal S2x512x2048 .f32) (ix3 b s j) = oArr m c (ix2 ⟨b.val * 512 + s.val, by omega⟩ j) := by
  have e : W4 m c main_v5 = shapeCast S2x512x2048 (oArr m c : FVec Ideal S1024x2048 .f32) shapeCasts_S1024x2048_S2x512x2048 := by
    unfold W4
    rw [← W3_o]
    after_results_simp <;> rfl
  rw [e]
  pointwise

/-! ## The tensors with both halves -/

theorem emb_left (a : Fin 1024) (k : Fin 128) : (rLeft.emb (ix2 a k) : S1024x256.Idx) = ix2 a ⟨k.val, by omega⟩ := by
  funext i
  match i with
  | 0 => exact Fin.ext (by show 0 + 1 * a.val = a.val; omega)
  | 1 => exact Fin.ext (by show 0 + 1 * k.val = k.val; omega)
theorem emb_right (a : Fin 1024) (k : Fin 128) : (rRight.emb (ix2 a k) : S1024x256.Idx) = ix2 a ⟨128 + k.val, by omega⟩ := by
  funext i
  match i with
  | 0 => exact Fin.ext (by show 0 + 1 * a.val = a.val; omega)
  | 1 => exact Fin.ext (by show 128 + 1 * k.val = 128 + k.val; omega)
theorem emb_top (k : Fin 128) (e : Fin 2048) : (rTop.emb (ix2 k e) : S256x2048.Idx) = ix2 ⟨k.val, by omega⟩ e := by
  funext i
  match i with
  | 0 => exact Fin.ext (by show 0 + 1 * k.val = k.val; omega)
  | 1 => exact Fin.ext (by show 0 + 1 * e.val = e.val; omega)
theorem emb_bot (k : Fin 128) (e : Fin 2048) : (rBot.emb (ix2 k e) : S256x2048.Idx) = ix2 ⟨128 + k.val, by omega⟩ e := by
  funext i
  match i with
  | 0 => exact Fin.ext (by show 128 + 1 * k.val = 128 + k.val; omega)
  | 1 => exact Fin.ext (by show 0 + 1 * e.val = e.val; omega)

theorem cat_fst {S : Shape} (r r' : Rect S) (hdis : Disjoint r.set r'.set) (x : FVec Ideal r.shape .bf16) (v : FVec Ideal r'.shape .bf16) (j : r.shape.Idx) :
    cat2 (F := Ideal) (e := .bf16) r r' x v (r.emb j) = x j := by
  have hj : r.emb j ∉ r'.set := fun hm => Finset.disjoint_left.mp hdis (by rw [← Rect.map_emb_univ]; exact Finset.mem_map_of_mem _ (Finset.mem_univ _)) hm
  exact (View.canon_cons_of_not_mem _ _ hj).trans (View.canon_cons_emb _ _ _ _)
theorem cat_snd {S : Shape} (r r' : Rect S) (x : FVec Ideal r.shape .bf16) (v : FVec Ideal r'.shape .bf16) (j : r'.shape.Idx) :
    cat2 (F := Ideal) (e := .bf16) r r' x v (r'.emb j) = v j := View.canon_cons_emb _ _ _ _

theorem cat_left (x v : FVec Ideal S1024x128 .bf16) (a : Fin 1024) (k : Fin 128) :
    cat2 (F := Ideal) (e := .bf16) rLeft rRight x v (ix2 a ⟨k.val, by omega⟩) = x (ix2 a k) := by
  rw [← emb_left]; exact cat_fst rLeft rRight dis_cols x v (ix2 a k)
theorem cat_right (x v : FVec Ideal S1024x128 .bf16) (a : Fin 1024) (k : Fin 128) :
    cat2 (F := Ideal) (e := .bf16) rLeft rRight x v (ix2 a ⟨128 + k.val, by omega⟩) = v (ix2 a k) := by
  rw [← emb_right]; exact cat_snd rLeft rRight x v (ix2 a k)
theorem cat_top (x v : FVec Ideal S128x2048 .bf16) (k : Fin 128) (e : Fin 2048) :
    cat2 (F := Ideal) (e := .bf16) rTop rBot x v (ix2 ⟨k.val, by omega⟩ e) = x (ix2 k e) := by
  rw [← emb_top]; exact cat_fst rTop rBot dis_rows x v (ix2 k e)
theorem cat_bot (x v : FVec Ideal S128x2048 .bf16) (k : Fin 128) (e : Fin 2048) :
    cat2 (F := Ideal) (e := .bf16) rTop rBot x v (ix2 ⟨128 + k.val, by omega⟩ e) = v (ix2 k e) := by
  rw [← emb_bot]; exact cat_snd rTop rBot x v (ix2 k e)

/-! ## What a device sends -/

theorem A_at (c : Dev nD) (k : Fin 128) (e : Fin 2048) : (vals m).A c (ix2 k e) = aUk m c (ix2 k e) := by
  show k0_pay2 (opUk m c) (ix2 k e) = _
  rw [opUk_m]
  pointwise [k0_pay2]
theorem B_at (c : Dev nD) (k : Fin 128) (e : Fin 2048) : (vals m).B c (ix2 k e) = aUv m c (ix2 k e) := by
  show k0_pay3 (opUv m c) (ix2 k e) = _
  rw [opUv_m]
  pointwise [k0_pay3]
theorem C_at (c : Dev nD) (b : Fin 2) (s : Fin 512) (r : Fin 128) :
    (vals m).C c (ix2 ⟨b.val * 512 + s.val, by omega⟩ r) = ∑ k : Fin 2048, aX m c (ix3 b s k) * aDkv m c (ix2 k r) := by
  have e : ∀ (x : FVec Ideal S1024x2048 .bf16) (w : FVec Ideal S2048x128 .f32) (a : Fin 1024), k0_pay4 (F := Ideal) x w (ix2 a r) = ∑ k : Fin 2048, x (ix2 a k) * w (ix2 k r) := by
    intro x w a
    pointwise [k0_pay4]
  show k0_pay4 (F := Ideal) (opX m c) (opDkv m c) (ix2 ⟨b.val * 512 + s.val, by omega⟩ r) = _
  rw [opDkv_m]
  exact (e (opX m c) (aDkv m c) _).trans (Finset.sum_congr rfl fun k _ => congrArg (· * aDkv m c (ix2 k r)) (opX_at m c b s k))

end Cert.KernelIdeal.Talk
end
-- ==== Proof.ValQ.lean ====
/-
  The first kernel's three results at an index, over the extended reals: the scaled queries, the keys and the values.
-/
module

public import proofs.«01_k».proof.Proof.Outs
public import Idealize.ShloMosaic.Lib.Pointwise
public import Idealize.ShloMosaic.Lib.Ring
public import Idealize.ShloMosaic.Lib.Pipeline.ValueKit

@[expose] public section

set_option maxRecDepth 16384

noncomputable section

namespace Cert.KernelIdeal.Talk

open Cert.KernelIdeal Cert.KernelIdeal.Gen
open Idealize.ShloMosaic Idealize.ShloMosaic.TcCoe
open Idealize.SL.Sem

/-- The scale of a score, 1/√160 at single precision. -/
abbrev κ : EReal := Ideal.ofBits .f32 0x3DA1E89B#32

/-- The queries at an index: column 160·h + d of head h is column 128·h + d of the scaled projection for d < 128, and
    column 32·h + (d - 128) of the scaled rotary part from there on. -/
def atQ (x : FVec Ideal S1024x2048 .bf16) (w : FVec Ideal S2048x2048 .f32) (wr : FVec Ideal S2048x512 .f32) (y : S1024x2560.Idx) : EReal :=
  if h : (y 1 : ℕ) % 160 < 128 then
    (∑ k : Fin 2048, x (ix2 (y 0) k) * w (ix2 k ⟨(y 1 : ℕ) / 160 * 128 + (y 1 : ℕ) % 160, by idx_bounds; omega⟩)) * κ
  else
    (∑ k : Fin 2048, x (ix2 (y 0) k) * wr (ix2 k ⟨(y 1 : ℕ) / 160 * 32 + ((y 1 : ℕ) % 160 - 128), by idx_bounds; omega⟩)) * κ

/-- Pieces cover a shape when their rectangles do. -/
theorem cover_rects {s : Shape} {e : EltTy} (R : List (Rect s)) (g : Fin s.rank → ℕ) (v : Elt Ideal e)
    (hg : View.Piece.tiledBy (R.map fun r => (⟨r, fun _ => v⟩ : View.Piece (Elt Ideal) s e)) g = true)
    (L : List (View.Piece (Elt Ideal) s e)) (h : L.map (·.1) = R) (y : s.Idx) : ∃ p ∈ L, y ∈ p.1.set := by
  obtain ⟨p, hp, hm⟩ := View.cover_of_tiledBy _ g hg y
  obtain ⟨r, hr, rfl⟩ := List.mem_map.mp hp
  rw [← h] at hr
  obtain ⟨q, hq, hqp⟩ := List.mem_map.mp hr
  exact ⟨q, hq, by rw [hqp]; exact hm⟩

/-- The rectangles of the queries' stores: the sixteen rotary parts, then the sixteen projections. -/
abbrev rectsQ : List (Rect S1024x2560) := [
    Rect.unit (s := S1024x2560) ![0, 2528] S1024x32.size inb_S1024x2560_S1024x32_0_2528,
    Rect.unit (s := S1024x2560) ![0, 2368] S1024x32.size inb_S1024x2560_S1024x32_0_2368,
    Rect.unit (s := S1024x2560) ![0, 2208] S1024x32.size inb_S1024x2560_S1024x32_0_2208,
    Rect.unit (s := S1024x2560) ![0, 2048] S1024x32.size inb_S1024x2560_S1024x32_0_2048,
    Rect.unit (s := S1024x2560) ![0, 1888] S1024x32.size inb_S1024x2560_S1024x32_0_1888,
    Rect.unit (s := S1024x2560) ![0, 1728] S1024x32.size inb_S1024x2560_S1024x32_0_1728,
    Rect.unit (s := S1024x2560) ![0, 1568] S1024x32.size inb_S1024x2560_S1024x32_0_1568,
    Rect.unit (s := S1024x2560) ![0, 1408] S1024x32.size inb_S1024x2560_S1024x32_0_1408,
    Rect.unit (s := S1024x2560) ![0, 1248] S1024x32.size inb_S1024x2560_S1024x32_0_1248,
    Rect.unit (s := S1024x2560) ![0, 1088] S1024x32.size inb_S1024x2560_S1024x32_0_1088,
    Rect.unit (s := S1024x2560) ![0, 928] S1024x32.size inb_S1024x2560_S1024x32_0_928,
    Rect.unit (s := S1024x2560) ![0, 768] S1024x32.size inb_S1024x2560_S1024x32_0_768,
    Rect.unit (s := S1024x2560) ![0, 608] S1024x32.size inb_S1024x2560_S1024x32_0_608,
    Rect.unit (s := S1024x2560) ![0, 448] S1024x32.size inb_S1024x2560_S1024x32_0_448,
    Rect.unit (s := S1024x2560) ![0, 288] S1024x32.size inb_S1024x2560_S1024x32_0_288,
    Rect.unit (s := S1024x2560) ![0, 128] S1024x32.size inb_S1024x2560_S1024x32_0_128,
    Rect.unit (s := S1024x2560) ![0, 2400] S1024x128.size inb_S1024x2560_S1024x128_0_2400,
    Rect.unit (s := S1024x2560) ![0, 2240] S1024x128.size inb_S1024x2560_S1024x128_0_2240,
    Rect.unit (s := S1024x2560) ![0, 2080] S1024x128.size inb_S1024x2560_S1024x128_0_2080,
    Rect.unit (s := S1024x2560) ![0, 1920] S1024x128.size inb_S1024x2560_S1024x128_0_1920,
    Rect.unit (s := S1024x2560) ![0, 1760] S1024x128.size inb_S1024x2560_S1024x128_0_1760,
    Rect.unit (s := S1024x2560) ![0, 1600] S1024x128.size inb_S1024x2560_S1024x128_0_1600,
    Rect.unit (s := S1024x2560) ![0, 1440] S1024x128.size inb_S1024x2560_S1024x128_0_1440,
    Rect.unit (s := S1024x2560) ![0, 1280] S1024x128.size inb_S1024x2560_S1024x128_0_1280,
    Rect.unit (s := S1024x2560) ![0, 1120] S1024x128.size inb_S1024x2560_S1024x128_0_1120,
    Rect.unit (s := S1024x2560) ![0, 960] S1024x128.size inb_S1024x2560_S1024x128_0_960,
    Rect.unit (s := S1024x2560) ![0, 800] S1024x128.size inb_S1024x2560_S1024x128_0_800,
    Rect.unit (s := S1024x2560) ![0, 640] S1024x128.size inb_S1024x2560_S1024x128_0_640,
    Rect.unit (s := S1024x2560) ![0, 480] S1024x128.size inb_S1024x2560_S1024x128_0_480,
    Rect.unit (s := S1024x2560) ![0, 320] S1024x128.size inb_S1024x2560_S1024x128_0_320,
    Rect.unit (s := S1024x2560) ![0, 160] S1024x128.size inb_S1024x2560_S1024x128_0_160,
    Rect.unit (s := S1024x2560) ![0, 0] S1024x128.size inb_S1024x2560_S1024x128_0_0]

/-- The rectangles of the keys' stores, head by head. -/
abbrev rectsK : List (Rect S1024x2560) := [
    Rect.unit (s := S1024x2560) ![0, 2528] S1024x32.size inb_S1024x2560_S1024x32_0_2528,
    Rect.unit (s := S1024x2560) ![0, 2400] S1024x128.size inb_S1024x2560_S1024x128_0_2400,
    Rect.unit (s := S1024x2560) ![0, 2368] S1024x32.size inb_S1024x2560_S1024x32_0_2368,
    Rect.unit (s := S1024x2560) ![0, 2240] S1024x128.size inb_S1024x2560_S1024x128_0_2240,
    Rect.unit (s := S1024x2560) ![0, 2208] S1024x32.size inb_S1024x2560_S1024x32_0_2208,
    Rect.unit (s := S1024x2560) ![0, 2080] S1024x128.size inb_S1024x2560_S1024x128_0_2080,
    Rect.unit (s := S1024x2560) ![0, 2048] S1024x32.size inb_S1024x2560_S1024x32_0_2048,
    Rect.unit (s := S1024x2560) ![0, 1920] S1024x128.size inb_S1024x2560_S1024x128_0_1920,
    Rect.unit (s := S1024x2560) ![0, 1888] S1024x32.size inb_S1024x2560_S1024x32_0_1888,
    Rect.unit (s := S1024x2560) ![0, 1760] S1024x128.size inb_S1024x2560_S1024x128_0_1760,
    Rect.unit (s := S1024x2560) ![0, 1728] S1024x32.size inb_S1024x2560_S1024x32_0_1728,
    Rect.unit (s := S1024x2560) ![0, 1600] S1024x128.size inb_S1024x2560_S1024x128_0_1600,
    Rect.unit (s := S1024x2560) ![0, 1568] S1024x32.size inb_S1024x2560_S1024x32_0_1568,
    Rect.unit (s := S1024x2560) ![0, 1440] S1024x128.size inb_S1024x2560_S1024x128_0_1440,
    Rect.unit (s := S1024x2560) ![0, 1408] S1024x32.size inb_S1024x2560_S1024x32_0_1408,
    Rect.unit (s := S1024x2560) ![0, 1280] S1024x128.size inb_S1024x2560_S1024x128_0_1280,
    Rect.unit (s := S1024x2560) ![0, 1248] S1024x32.size inb_S1024x2560_S1024x32_0_1248,
    Rect.unit (s := S1024x2560) ![0, 1120] S1024x128.size inb_S1024x2560_S1024x128_0_1120,
    Rect.unit (s := S1024x2560) ![0, 1088] S1024x32.size inb_S1024x2560_S1024x32_0_1088,
    Rect.unit (s := S1024x2560) ![0, 960] S1024x128.size inb_S1024x2560_S1024x128_0_960,
    Rect.unit (s := S1024x2560) ![0, 928] S1024x32.size inb_S1024x2560_S1024x32_0_928,
    Rect.unit (s := S1024x2560) ![0, 800] S1024x128.size inb_S1024x2560_S1024x128_0_800,
    Rect.unit (s := S1024x2560) ![0, 768] S1024x32.size inb_S1024x2560_S1024x32_0_768,
    Rect.unit (s := S1024x2560) ![0, 640] S1024x128.size inb_S1024x2560_S1024x128_0_640,
    Rect.unit (s := S1024x2560) ![0, 608] S1024x32.size inb_S1024x2560_S1024x32_0_608,
    Rect.unit (s := S1024x2560) ![0, 480] S1024x128.size inb_S1024x2560_S1024x128_0_480,
    Rect.unit (s := S1024x2560) ![0, 448] S1024x32.size inb_S1024x2560_S1024x32_0_448,
    Rect.unit (s := S1024x2560) ![0, 320] S1024x128.size inb_S1024x2560_S1024x128_0_320,
    Rect.unit (s := S1024x2560) ![0, 288] S1024x32.size inb_S1024x2560_S1024x32_0_288,
    Rect.unit (s := S1024x2560) ![0, 160] S1024x128.size inb_S1024x2560_S1024x128_0_160,
    Rect.unit (s := S1024x2560) ![0, 128] S1024x32.size inb_S1024x2560_S1024x32_0_128,
    Rect.unit (s := S1024x2560) ![0, 0] S1024x128.size inb_S1024x2560_S1024x128_0_0]

theorem outQ_at (x : FVec Ideal S1024x2048 .bf16) (w : FVec Ideal S2048x2048 .f32) (wr : FVec Ideal S2048x512 .f32) (y : S1024x2560.Idx) :
    outQ (F := Ideal) x w wr y = atQ x w wr y := by
  unfold outQ
  canon_tiles z h using cover_rects rectsQ ![1024, 32] 0 (by decide +kernel) _ rfl y
  all_goals
    first
    | have e : ¬ (y 1 : ℕ) % 160 < 128 := by omega
      rw [atQ, dif_neg e]
    | have e : (y 1 : ℕ) % 160 < 128 := by omega
      rw [atQ, dif_pos e]
    open_payloads
    pointwise [wq0, wq1, wq2, wq3, wq4, wq5, wq6, wq7]
    blk_point []

/-- The keys at an index: column 160·h + d of head h is column 128·h + d of the up-projected activations for d < 128, and
    column d - 128 of the shared rotary part from there on. -/
def atK (x : FVec Ideal S1024x2048 .bf16) (wr : FVec Ideal S2048x32 .f32) (u : FVec Ideal S1024x256 .bf16) (a : FVec Ideal S256x2048 .bf16)
    (y : S1024x2560.Idx) : EReal :=
  if h : (y 1 : ℕ) % 160 < 128 then
    ∑ k : Fin 256, u (ix2 (y 0) k) * a (ix2 k ⟨(y 1 : ℕ) / 160 * 128 + (y 1 : ℕ) % 160, by idx_bounds; omega⟩)
  else
    ∑ k : Fin 2048, x (ix2 (y 0) k) * wr (ix2 k ⟨(y 1 : ℕ) % 160 - 128, by idx_bounds; omega⟩)

theorem outK_at (x : FVec Ideal S1024x2048 .bf16) (wr : FVec Ideal S2048x32 .f32) (u : FVec Ideal S1024x256 .bf16) (a : FVec Ideal S256x2048 .bf16)
    (y : S1024x2560.Idx) : outK (F := Ideal) x wr u a y = atK x wr u a y := by
  unfold outK
  canon_tiles z h using cover_rects rectsK ![1024, 32] 0 (by decide +kernel) _ rfl y
  all_goals
    first
    | have e : ¬ (y 1 : ℕ) % 160 < 128 := by omega
      rw [atK, dif_neg e]
    | have e : (y 1 : ℕ) % 160 < 128 := by omega
      rw [atK, dif_pos e]
    open_payloads
    pointwise
    blk_point []

/-- The values at an index. -/
theorem outV_at (u : FVec Ideal S1024x256 .bf16) (b : FVec Ideal S256x2048 .bf16) (y : S1024x2048.Idx) :
    outV (F := Ideal) u b y = ∑ k : Fin 256, u (ix2 (y 0) k) * b (ix2 k (y 1)) := by
  unfold outV
  canon_tiles z h
  open_payloads
  pointwise
  blk_point []

end Cert.KernelIdeal.Talk
end
-- ==== Proof.ValO.lean ====
/-
  The second kernel's block of the result at an index, over the extended reals.
-/
module

public import proofs.«01_k».proof.Proof.Outs1
public import Idealize.ShloMosaic.Lib.Pointwise
public import Idealize.ShloMosaic.Lib.Pipeline.ValueKit

@[expose] public section

set_option maxRecDepth 16384

noncomputable section

namespace Cert.KernelIdeal.Talk

open Cert.KernelIdeal Cert.KernelIdeal.Gen
open Idealize.ShloMosaic Idealize.ShloMosaic.TcCoe
open Idealize.SL.Sem

/-- The weight of key row t for query row s in head h: the exponential of the score. -/
def atE (q k : FVec Ideal S512x2560 .bf16) (h : Fin 16) (s t : Fin 512) : EReal :=
  Ideal.exp (∑ l : Fin 160, q (ix2 s ⟨h.val * 160 + l.val, by omega⟩) * k (ix2 t ⟨h.val * 160 + l.val, by omega⟩))

/-- The heads' outputs at a row s and a column d of head h. -/
def atH (q k : FVec Ideal S512x2560 .bf16) (v : FVec Ideal S512x2048 .bf16) (h : Fin 16) (s : Fin 512) (d : Fin 2048) : EReal :=
  (∑ t : Fin 512, atE q k h s t * v (ix2 t d)) * Ideal.div 1 (∑ t : Fin 512, atE q k h s t)

theorem outH_at (q k : FVec Ideal S512x2560 .bf16) (v : FVec Ideal S512x2048 .bf16) (y : S512x2048.Idx) :
    outH (F := Ideal) q k v y = atH q k v ⟨(y 1 : ℕ) / 128, by idx_bounds; omega⟩ (y 0) (y 1) := by
  unfold outH
  canon_tiles z h
  all_goals
    first
    | unfold ho0 | unfold ho1 | unfold ho2 | unfold ho3 | unfold ho4 | unfold ho5 | unfold ho6 | unfold ho7
    | unfold ho8 | unfold ho9 | unfold ho10 | unfold ho11 | unfold ho12 | unfold ho13 | unfold ho14 | unfold ho15
  all_goals
    open_payloads
    pointwise [atH, atE, hq0, hq1, hq2, hq3, hq4, hq5, hq6, hq7, hq8, hq9, hq10, hq11, hq12, hq13, hq14, hq15,
      hv0, hv1, hv2, hv3, hv4, hv5, hv6, hv7, hv8, hv9, hv10, hv11, hv12, hv13, hv14, hv15]
    blk_point []

/-- The staged output weights are the weights. -/
theorem outW_at (w : FVec Ideal S2048x2048 .f32) (y : S2048x2048.Idx) : outW (F := Ideal) w y = w y := by
  unfold outW
  canon_tiles z h
  all_goals
    open_payloads
    pointwise [wr0, wr1, wr2, wr3]
    blk_point []

/-- The block of the result at an index. -/
theorem outO_at (q k : FVec Ideal S512x2560 .bf16) (v : FVec Ideal S512x2048 .bf16) (w : FVec Ideal S2048x2048 .bf16) (y : S512x2048.Idx) :
    outO (F := Ideal) q k v w y
      = ∑ e : Fin 2048, atH q k v ⟨e.val / 128, by omega⟩ (y 0) e * w (ix2 e (y 1)) := by
  unfold outO
  canon_tiles z h
  pointwise [k1_pay2]
  refine Finset.sum_congr rfl fun e _ => ?_
  rw [outH_at]
  have e0 : y 0 = z 0 := Fin.ext h0
  have e1 : y 1 = z 1 := Fin.ext h1
  rw [e0, e1]
  rfl

end Cert.KernelIdeal.Talk
end
-- ==== Proof.ValOut.lean ====
/-
  The program's result at an index on every device, from the whole arrays of which the devices hold blocks.
-/
module

public import proofs.«01_k».proof.Proof.ValK
public import proofs.«01_k».proof.Proof.ValQ
public import proofs.«01_k».proof.Proof.ValO

@[expose] public section

set_option maxRecDepth 16384

noncomputable section

namespace Cert.KernelIdeal.Talk

open Cert.KernelIdeal Cert.KernelIdeal.Gen
open Idealize.ShloMosaic Idealize.ShloMosaic.TcCoe
open Idealize.SL.Sem

variable (m : (ℓ : Loc nD τ sig) → Buf (Elt Ideal) ℓ)

/-- A device's coordinate on the mesh's second axis: which half of the cut arrays it holds. -/
def side (c : Dev nD) : ℕ := c.val / 4 % 2
theorem side_lt (c : Dev nD) : side c < 2 := Nat.mod_lt _ (by omega)
theorem side_pr (c : Dev nD) : side (pr c) = 1 - side c := by revert c; decide

/-- The devices hold their parts of the whole arrays. -/
structure Holds (X : FVec Ideal S2x512x2048 .f32) (D : (Attn.SM 2048 256).Idx → EReal) (Uk Uv : (Attn.SM 256 2048).Idx → EReal)
    (Wq : FVec Ideal S2048x2048 .f32) (Wqr : FVec Ideal S2048x512 .f32) (Wkr : FVec Ideal S2048x32 .f32) (Wo : FVec Ideal S2048x2048 .f32) : Prop where
  hX : ∀ c, aX m c = X
  hD : ∀ c k (r : Fin 128), aDkv m c (ix2 k r) = D (ix2 k ⟨side c * 128 + r.val, by have := side_lt c; omega⟩)
  hUk : ∀ c (r : Fin 128) e, aUk m c (ix2 r e) = Uk (ix2 ⟨side c * 128 + r.val, by have := side_lt c; omega⟩ e)
  hUv : ∀ c (r : Fin 128) e, aUv m c (ix2 r e) = Uv (ix2 ⟨side c * 128 + r.val, by have := side_lt c; omega⟩ e)
  hWq : ∀ c, aQ m c = Wq
  hWqr : ∀ c, aQr m c = Wqr
  hWkr : ∀ c, aKr m c = Wkr
  hWo : ∀ c, aWo m c = Wo

/-- A device's half of a sum and its partner's half are the sum. -/
theorem sum_halves (c : Dev nD) (f : Fin 256 → EReal) :
    (∑ r : Fin 128, f ⟨side c * 128 + r.val, by have := side_lt c; omega⟩)
      + (∑ r : Fin 128, f ⟨side (pr c) * 128 + r.val, by have := side_lt (pr c); omega⟩) = ∑ r, f r := by
  have e : ∑ r, f r = (∑ r : Fin 128, f ⟨r.val, by omega⟩) + ∑ r : Fin 128, f ⟨128 + r.val, by omega⟩ :=
    Fin.sum_univ_add (a := 128) (b := 128) f
  rw [e]
  have hp := side_pr c
  have h2 := side_lt c
  rcases (by omega : side c = 0 ∨ side c = 1) with h | h
  · have h' : side (pr c) = 1 := by omega
    refine congrArg₂ (· + ·) (Finset.sum_congr rfl fun r _ => congrArg f (Fin.ext ?_)) (Finset.sum_congr rfl fun r _ => congrArg f (Fin.ext ?_))
    · show side c * 128 + r.val = r.val; omega
    · show side (pr c) * 128 + r.val = 128 + r.val; omega
  · have h' : side (pr c) = 0 := by omega
    rw [add_comm]
    refine congrArg₂ (· + ·) (Finset.sum_congr rfl fun r _ => congrArg f (Fin.ext ?_)) (Finset.sum_congr rfl fun r _ => congrArg f (Fin.ext ?_))
    · show side (pr c) * 128 + r.val = r.val; omega
    · show side c * 128 + r.val = 128 + r.val; omega

variable {m}
variable {X : FVec Ideal S2x512x2048 .f32} {D : (Attn.SM 2048 256).Idx → EReal} {Uk Uv : (Attn.SM 256 2048).Idx → EReal}
    {Wq : FVec Ideal S2048x2048 .f32} {Wqr : FVec Ideal S2048x512 .f32} {Wkr : FVec Ideal S2048x32 .f32} {Wo : FVec Ideal S2048x2048 .f32}

theorem C_proj (H : Holds m X D Uk Uv Wq Wqr Wkr Wo) (c : Dev nD) (b : Fin 2) (s : Fin 512) (r : Fin 128) :
    (vals m).C c (ix2 ⟨b.val * 512 + s.val, by omega⟩ r) = Attn.proj X D b s ⟨side c * 128 + r.val, by have := side_lt c; omega⟩ := by
  refine (C_at m c b s r).trans (Finset.sum_congr rfl fun k _ => ?_)
  rw [H.hX, H.hD]

/-- Contracting the two halves of the activations with the two halves of an up-projection is the whole contraction. -/
theorem up_whole (H : Holds m X D Uk Uv Wq Wqr Wkr Wo) (A : Dev nD → FVec Ideal S128x2048 .bf16) (U : (Attn.SM 256 2048).Idx → EReal)
    (hA : ∀ c (r : Fin 128) e, A c (ix2 r e) = U (ix2 ⟨side c * 128 + r.val, by have := side_lt c; omega⟩ e))
    (c : Dev nD) (b : Fin 2) (t : Fin 512) (e : Fin 2048) :
    ∑ k : Fin 256, cAll m c (ix2 ⟨b.val * 512 + t.val, by omega⟩ k) * cat2 (F := Ideal) (e := .bf16) rTop rBot (A c) (A (pr c)) (ix2 k e)
      = Attn.up X D U b t e := by
  refine (Fin.sum_univ_add (a := 128) (b := 128)
    (fun k => cAll m c (ix2 ⟨b.val * 512 + t.val, by omega⟩ k) * cat2 (F := Ideal) (e := .bf16) rTop rBot (A c) (A (pr c)) (ix2 k e))).trans ?_
  rw [Attn.up, ← sum_halves c]
  refine congrArg₂ (· + ·) (Finset.sum_congr rfl fun r _ => ?_) (Finset.sum_congr rfl fun r _ => ?_)
  · exact congrArg₂ (· * ·) ((cat_left _ _ _ r).trans (C_proj H c b t r)) ((cat_top _ _ r e).trans (hA c r e))
  · exact congrArg₂ (· * ·) ((cat_right _ _ _ r).trans (C_proj H (pr c) b t r)) ((cat_bot _ _ r e).trans (hA (pr c) r e))
theorem up_k (H : Holds m X D Uk Uv Wq Wqr Wkr Wo) (c : Dev nD) (b : Fin 2) (t : Fin 512) (e : Fin 2048) :
    ∑ k : Fin 256, cAll m c (ix2 ⟨b.val * 512 + t.val, by omega⟩ k) * ukAll m c (ix2 k e) = Attn.up X D Uk b t e :=
  up_whole H (vals m).A Uk (fun c r e => (A_at m c r e).trans (H.hUk c r e)) c b t e
theorem up_v (H : Holds m X D Uk Uv Wq Wqr Wkr Wo) (c : Dev nD) (b : Fin 2) (t : Fin 512) (e : Fin 2048) :
    ∑ k : Fin 256, cAll m c (ix2 ⟨b.val * 512 + t.val, by omega⟩ k) * uvAll m c (ix2 k e) = Attn.up X D Uv b t e :=
  up_whole H (vals m).B Uv (fun c r e => (B_at m c r e).trans (H.hUv c r e)) c b t e

/-! ## The second kernel's operands -/

theorem q_proj (H : Holds m X D Uk Uv Wq Wqr Wkr Wo) (c : Dev nD) (b : Fin 2) (s : Fin 512) (h : Fin 16) (l : Fin 128) :
    qB m c b (ix2 s ⟨h.val * 160 + l.val, by omega⟩) = Attn.proj X Wq b s ⟨h.val * 128 + l.val, by omega⟩ * Attn.scale := by
  refine (qB_at m c b s _).trans ?_
  rw [qOut_eq, outQ_at, atQ, dif_pos (by show (h.val * 160 + l.val) % 160 < 128; omega)]
  refine congrArg (· * _) (Finset.sum_congr rfl fun k _ => congrArg₂ (· * ·) ?_ ?_)
  · exact (opX_at m c b s k).trans (by rw [H.hX])
  · rw [opQ_m, H.hWq]
    refine congrArg (fun z => Wq (ix2 k z)) (Fin.ext ?_)
    show (h.val * 160 + l.val) / 160 * 128 + (h.val * 160 + l.val) % 160 = h.val * 128 + l.val
    omega
theorem q_rot (H : Holds m X D Uk Uv Wq Wqr Wkr Wo) (c : Dev nD) (b : Fin 2) (s : Fin 512) (h : Fin 16) (l : Fin 32) :
    qB m c b (ix2 s ⟨h.val * 160 + (128 + l.val), by omega⟩) = Attn.proj X Wqr b s ⟨h.val * 32 + l.val, by omega⟩ * Attn.scale := by
  refine (qB_at m c b s _).trans ?_
  rw [qOut_eq, outQ_at, atQ, dif_neg (by show ¬ (h.val * 160 + (128 + l.val)) % 160 < 128; omega)]
  refine congrArg (· * _) (Finset.sum_congr rfl fun k _ => congrArg₂ (· * ·) ?_ ?_)
  · exact (opX_at m c b s k).trans (by rw [H.hX])
  · rw [opQr_m, H.hWqr]
    refine congrArg (fun z => Wqr (ix2 k z)) (Fin.ext ?_)
    show (h.val * 160 + (128 + l.val)) / 160 * 32 + ((h.val * 160 + (128 + l.val)) % 160 - 128) = h.val * 32 + l.val
    omega
theorem k_up (H : Holds m X D Uk Uv Wq Wqr Wkr Wo) (c : Dev nD) (b : Fin 2) (t : Fin 512) (h : Fin 16) (l : Fin 128) :
    kB m c b (ix2 t ⟨h.val * 160 + l.val, by omega⟩) = Attn.up X D Uk b t ⟨h.val * 128 + l.val, by omega⟩ := by
  refine (kB_at m c b t _).trans ?_
  rw [kOut_eq, outK_at, atK, dif_pos (by show (h.val * 160 + l.val) % 160 < 128; omega)]
  rw [← up_k H c b t]
  refine Finset.sum_congr rfl fun k _ => congrArg₂ (· * ·) rfl ?_
  refine congrArg (fun z => ukAll m c (ix2 k z)) (Fin.ext ?_)
  show (h.val * 160 + l.val) / 160 * 128 + (h.val * 160 + l.val) % 160 = h.val * 128 + l.val
  omega
theorem k_rot (H : Holds m X D Uk Uv Wq Wqr Wkr Wo) (c : Dev nD) (b : Fin 2) (t : Fin 512) (h : Fin 16) (l : Fin 32) :
    kB m c b (ix2 t ⟨h.val * 160 + (128 + l.val), by omega⟩) = Attn.proj X Wkr b t l := by
  refine (kB_at m c b t _).trans ?_
  rw [kOut_eq, outK_at, atK, dif_neg (by show ¬ (h.val * 160 + (128 + l.val)) % 160 < 128; omega)]
  refine Finset.sum_congr rfl fun k _ => congrArg₂ (· * ·) ?_ ?_
  · exact (opX_at m c b t k).trans (by rw [H.hX])
  · rw [opKr_m, H.hWkr]
    refine congrArg (fun z => Wkr (ix2 k z)) (Fin.ext ?_)
    show (h.val * 160 + (128 + l.val)) % 160 - 128 = l.val
    omega
theorem v_up (H : Holds m X D Uk Uv Wq Wqr Wkr Wo) (c : Dev nD) (b : Fin 2) (t : Fin 512) (e : Fin 2048) :
    vB m c b (ix2 t e) = Attn.up X D Uv b t e := by
  refine (vB_at m c b t _).trans ?_
  rw [vOut_eq, outV_at]
  exact up_v H c b t e

/-- A head's weight of a key row is the exponential of the score. -/
theorem atE_score (H : Holds m X D Uk Uv Wq Wqr Wkr Wo) (c : Dev nD) (b : Fin 2) (h : Fin 16) (s t : Fin 512) :
    atE (qB m c b) (kB m c b) h s t = Ideal.exp (Attn.score X D Uk Wq Wqr Wkr b h s t) :=
  congrArg Ideal.exp (Attn.score_eq X D Uk Wq Wqr Wkr
    (fun l => qB m c b (ix2 s ⟨h.val * 160 + l.val, by omega⟩)) (fun l => kB m c b (ix2 t ⟨h.val * 160 + l.val, by omega⟩)) b h s t
    (fun l => q_proj H c b s h l) (fun l => q_rot H c b s h l) (fun l => k_up H c b t h l) (fun l => k_rot H c b t h l))

/-- The result at an index, on every device. -/
theorem result_at (H : Holds m X D Uk Uv Wq Wqr Wkr Wo) (c : Dev nD) (b : Fin 2) (s : Fin 512) (j : Fin 2048) :
    (W4 m c main_v5 : FVec Ideal S2x512x2048 .f32) (ix3 b s j) = Attn.kerOut X D Uk Uv Wq Wqr Wkr Wo b s j := by
  refine (out_at m c b s j).trans ((oArr_at m c b s j).trans ((congrFun (oB_eq m c (b : Fin cfg1.N)) (ix2 s j)).trans ((outO_at _ _ _ _ (ix2 s j)).trans ?_)))
  refine Finset.sum_congr rfl fun e _ => congrArg₂ (· * ·) ?_ ?_
  · refine congrArg₂ (fun p q => p * Ideal.div 1 q) (Finset.sum_congr rfl fun t _ => ?_) (Finset.sum_congr rfl fun t _ => ?_)
    · exact congrArg₂ (· * ·) (atE_score H c b _ s t) (v_up H c b t e)
    · exact atE_score H c b _ s t
  · rw [woB_eq, outW_at, opO_m, H.hWo]
    rfl

end Cert.KernelIdeal.Talk
end
-- ==== Proof.ValRef.lean ====
/-
  The reference's result at an index, over the extended reals.
-/
module

public import proofs.«01_k».proof.Proof.Gen.ReferenceIdeal.Run
public import proofs.«01_k».proof.Proof.Spec

@[expose] public section

set_option maxRecDepth 16384

noncomputable section

namespace Cert.ReferenceIdeal.Talk

open Cert.ReferenceIdeal Cert.ReferenceIdeal.Gen
open Idealize.ShloMosaic Idealize.ShloMosaic.TcCoe
open Idealize.SL.Sem

theorem res_at (m : (ℓ : Loc nD τ sig) → Buf (Elt Ideal) ℓ) (c : Dev nD) (b : Fin 2) (s : Fin 512) (j : Fin 2048) :
    Value.res_main_v29 m c (ix3 b s j)
      = Attn.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s j := by
  pointwise [Value.res_main_v29, Attn.refOut, Attn.score, Attn.up, Attn.proj]

end Cert.ReferenceIdeal.Talk
end
-- ==== Proof.Finite.lean ====
/-
  The precondition read: every entry of the arrays the scores are computed from is a real number.
-/
module

public import proofs.«01_k».proof.Proof.Gen.Pre_finite_scores_KernelIdeal
public import proofs.«01_k».proof.Proof.Spec
public import Idealize.ShloMosaic.Lib.ReduceAll

@[expose] public section

set_option maxRecDepth 16384

noncomputable section

namespace Cert.Pre_finite_scores_KernelIdeal.Talk

open Cert.Pre_finite_scores_KernelIdeal Cert.Pre_finite_scores_KernelIdeal.Facts
open Idealize.ShloMosaic
open Cert.Attn (IsReal)

theorem both {p q : IVec S_ 1} {i : S_.Idx} (h : andi p q i = 1#1) : p i = 1#1 ∧ q i = 1#1 := by
  have e : p i &&& q i = 1#1 := h
  generalize p i = a at e ⊢
  generalize q i = b at e ⊢
  revert a b
  decide

instance : Subsingleton S_.Idx := ⟨fun a b => funext fun i => i.elim0⟩

/-- An array whose absolute values are all below infinity holds real numbers. -/
theorem all_real {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : IsReal (x i) := by
  have e := Host.reduce_andi_all _ _ hr hu j h i
  have e' : Ideal.cmp .olt (max (x i) (-(x i))) (Ideal.ofBits .f32 0x7F800000#32) = 1#1 := e
  have t : Ideal.ofBits .f32 0x7F800000#32 = (⊤ : EReal) := by simp [Ideal.ofBits, Ideal.ieee]
  rw [t] at e'
  refine Attn.isReal_of_bounds ?_
  by_contra hn
  simp [Ideal.cmp, hn] at e'

variable [Facts]

theorem real_of (x0 : FVec Ideal S2x512x2048 .f32) (x1 : FVec Ideal S2048x128 .f32) (x2 x3 : FVec Ideal S128x2048 .f32) (x4 : FVec Ideal S2048x2048 .f32)
    (x5 : FVec Ideal S2048x512 .f32) (x6 : FVec Ideal S2048x32 .f32) (x7 : FVec Ideal S2048x2048 .f32)
    (h : fn (F := Ideal) x0 x1 x2 x3 x4 x5 x6 x7 = fun _ => 1#1) :
    (∀ i, IsReal (x0 i)) ∧ (∀ i, IsReal (x1 i)) ∧ (∀ i, IsReal (x2 i)) ∧ (∀ i, IsReal (x4 i)) ∧ (∀ i, IsReal (x5 i)) ∧ (∀ i, IsReal (x6 i)) := by
  have j : S_.Idx := fun a => a.elim0
  have e := congrFun h j
  dsimp only [fn, fn_part1] at e
  obtain ⟨e, h6⟩ := both e
  obtain ⟨e, h5⟩ := both e
  obtain ⟨e, h4⟩ := both e
  obtain ⟨e, h2⟩ := both e
  obtain ⟨h0, h1⟩ := both e
  exact ⟨all_real x0 _ _ _ j h0, all_real x1 _ _ _ j h1, all_real x2 _ _ _ j h2, all_real x4 _ _ _ j h4, all_real x5 _ _ _ j h5, all_real x6 _ _ _ j h6⟩

end Cert.Pre_finite_scores_KernelIdeal.Talk
end
-- ==== Proof.lean ====
/-
  The claims assembled: the frames of the kernel at both readings from its one run, the frame of the reference from its
  host run, and the equality of the two results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Run
public import proofs.«01_k».proof.Proof.ValOut
public import proofs.«01_k».proof.Proof.ValRef
public import proofs.«01_k».proof.Proof.Finite
public import Idealize.ShloMosaic.Adequacy
public import Idealize.ShloMosaic.Init

@[expose] public section

noncomputable section

namespace Cert.Proof

open Idealize.ShloMosaic Idealize.SL.Sem

/-- The two programs' kernel bodies are one text. -/
theorem bodies_eq {F : FTy → Type} [FloatOps F] : haveI := Cert.Kernel.Gen.facts; haveI := Cert.KernelIdeal.Gen.facts
    Cert.Kernel.defs₀ (F := F) = Cert.KernelIdeal.defs₀ := by
  unfold Cert.Kernel.defs₀ Cert.KernelIdeal.defs₀
  congr 1
  funext x y
  match x, y with
  | 0, (t, s) => rfl
  | 1, (t, s) => rfl

/-- So are their body tables with the two pipelines. -/
theorem defs_eq {F : FTy → Type} [FloatOps F] : haveI := Cert.Kernel.Gen.facts; haveI := Cert.KernelIdeal.Gen.facts
    Cert.Kernel.defs (F := F) = Cert.KernelIdeal.defs :=
  congrArg (Pipeline.defs Cert.KernelIdeal.pcfgs) bodies_eq

/-- The kernel as printed: its run is the idealized program's, whose text is the same, read at bit patterns. -/
theorem frame_kernel : Cert.quiescent_Kernel (hKernel := Cert.Kernel.Gen.facts) := by
  haveI := Cert.Kernel.Gen.facts
  haveI := Cert.KernelIdeal.Gen.facts
  intro m ρ _
  rw [show Cert.Kernel.defs (F := Bits) = Cert.KernelIdeal.defs from defs_eq]
  exact (θ_run Cert.KernelIdeal.defs (onTc Cert.KernelIdeal.main) ⟨m, fun _ => 0, ρ⟩).mono (fun _ h => ⟨fun c => (h.1 c).2, h.2⟩)
    (Cert.KernelIdeal.Talk.run_main (F := Bits) m ρ)

/-- The kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Talk.run_main (F := Ideal) m ρ)

/-- The reference over the extended reals, which has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

/-- The devices' blocks cover the whole array: device 0 holds the first half, device 4 the second. -/
theorem holder (r : Fin 256) : ∃ (c : Dev Cert.KernelIdeal.nD) (q : Fin 128), Cert.KernelIdeal.Talk.side c * 128 + q.val = r.val := by
  by_cases h : r.val < 128
  · exact ⟨0, ⟨r.val, h⟩, by show 0 * 128 + r.val = r.val; omega⟩
  · exact ⟨4, ⟨r.val - 128, by omega⟩, by show 1 * 128 + (r.val - 128) = r.val; omega⟩

/-- The kernel and the reference compute the same result over the extended reals. -/
theorem equal_results : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) := by
  haveI := Cert.KernelIdeal.Gen.facts
  haveI := Cert.ReferenceIdeal.Gen.facts
  haveI := Cert.Pre_finite_scores_KernelIdeal.Gen.facts
  intro m g m' g' hpre hargs
  have hreal := fun c => Cert.Pre_finite_scores_KernelIdeal.Talk.real_of _ _ _ _ _ _ _ _ (hpre c)
  have hside : ∀ c : Dev Cert.KernelIdeal.nD, Layout.meshLin [2, 2, 4] c.val [1] = Cert.KernelIdeal.Talk.side c := by decide
  have H : Cert.KernelIdeal.Talk.Holds m
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4))
      (m' (((0 : Dev Cert.ReferenceIdeal.nD).tc : Thread Cert.ReferenceIdeal.nD Cert.ReferenceIdeal.τ).loc Cert.ReferenceIdeal.main_arg5))
      (m' (((0 : Dev Cert.ReferenceIdeal.nD).tc : Thread Cert.ReferenceIdeal.nD Cert.ReferenceIdeal.τ).loc Cert.ReferenceIdeal.main_arg6))
      (m' (((0 : Dev Cert.ReferenceIdeal.nD).tc : Thread Cert.ReferenceIdeal.nD Cert.ReferenceIdeal.τ).loc Cert.ReferenceIdeal.main_arg7)) := {
    hX := fun c => (hargs c).1
    hD := fun c k r => (congrFun (hargs c).2.1 (ix2 k r)).trans (congrArg (m' (((0 : Dev Cert.ReferenceIdeal.nD).tc : Thread Cert.ReferenceIdeal.nD Cert.ReferenceIdeal.τ).loc Cert.ReferenceIdeal.main_arg1)) (funext fun a => by
      match a with
      | 0 => exact Fin.ext (by show 0 * 2048 + k.val = k.val; omega)
      | 1 => exact Fin.ext (by show Layout.meshLin [2, 2, 4] c.val [1] * 128 + r.val = _; rw [hside c]; rfl)))
    hUk := fun c r e => (congrFun (hargs c).2.2.1 (ix2 r e)).trans (congrArg (m' (((0 : Dev Cert.ReferenceIdeal.nD).tc : Thread Cert.ReferenceIdeal.nD Cert.ReferenceIdeal.τ).loc Cert.ReferenceIdeal.main_arg2)) (funext fun a => by
      match a with
      | 0 => exact Fin.ext (by show Layout.meshLin [2, 2, 4] c.val [1] * 128 + r.val = _; rw [hside c]; rfl)
      | 1 => exact Fin.ext (by show 0 * 2048 + e.val = e.val; omega)))
    hUv := fun c r e => (congrFun (hargs c).2.2.2.1 (ix2 r e)).trans (congrArg (m' (((0 : Dev Cert.ReferenceIdeal.nD).tc : Thread Cert.ReferenceIdeal.nD Cert.ReferenceIdeal.τ).loc Cert.ReferenceIdeal.main_arg3)) (funext fun a => by
      match a with
      | 0 => exact Fin.ext (by show Layout.meshLin [2, 2, 4] c.val [1] * 128 + r.val = _; rw [hside c]; rfl)
      | 1 => exact Fin.ext (by show 0 * 2048 + e.val = e.val; omega)))
    hWq := fun c => (hargs c).2.2.2.2.1
    hWqr := fun c => (hargs c).2.2.2.2.2.1
    hWkr := fun c => (hargs c).2.2.2.2.2.2.1
    hWo := fun c => (hargs c).2.2.2.2.2.2.2 }
  refine ⟨Cert.ReferenceIdeal.Value.res_main_v29 m' 0, ?_, ?_⟩
  · refine (θ_run Cert.KernelIdeal.defs _ _).mono (fun r h c => ⟨(h.1 c).1.trans ?_, (h.1 c).2⟩) (Cert.KernelIdeal.Talk.run_main (F := Ideal) m g)
    funext i
    obtain ⟨b, s, j, rfl⟩ : ∃ (b : Fin 2) (s : Fin 512) (j : Fin 2048), i = ix3 b s j :=
      ⟨i 0, i 1, i 2, funext fun a => by match a with | 0 => rfl | 1 => rfl | 2 => rfl⟩
    refine (Cert.KernelIdeal.Talk.result_at H c b s j).trans (Eq.trans ?_ (Cert.ReferenceIdeal.Talk.res_at m' 0 b s j).symm)
    refine Cert.Attn.kerOut_eq _ _ _ _ _ _ _ _ ?_ ?_ ?_ ?_ ?_ ?_ b s j
    · intro i; rw [← H.hX 0]; exact (hreal 0).1 i
    · intro i
      obtain ⟨c, q, hq⟩ := holder (i 1)
      have e := H.hD c (i 0) q
      have ei : (ix2 (i 0) ⟨Cert.KernelIdeal.Talk.side c * 128 + q.val, hq ▸ (i 1).isLt⟩ : (Cert.Attn.SM 2048 256).Idx) = i :=
        funext fun a => by match a with | 0 => rfl | 1 => exact Fin.ext hq
      rw [ei] at e
      rw [← e]; exact (hreal c).2.1 _
    · intro i
      obtain ⟨c, q, hq⟩ := holder (i 0)
      have e := H.hUk c q (i 1)
      have ei : (ix2 ⟨Cert.KernelIdeal.Talk.side c * 128 + q.val, hq ▸ (i 0).isLt⟩ (i 1) : (Cert.Attn.SM 256 2048).Idx) = i :=
        funext fun a => by match a with | 0 => exact Fin.ext hq | 1 => rfl
      rw [ei] at e
      rw [← e]; exact (hreal c).2.2.1 _
    · intro i; rw [← H.hWq 0]; exact (hreal 0).2.2.2.1 i
    · intro i; rw [← H.hWqr 0]; exact (hreal 0).2.2.2.2.1 i
    · intro i; rw [← H.hWkr 0]; exact (hreal 0).2.2.2.2.2 i
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m ρ _ => frame_ideal m ρ trivial, frame_reference, fun m ρ _ => frame_reference m ρ trivial, trivial, equal_results⟩

end Cert.Proof

end
